-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_scores [hPre_finite_scores : Cert.Pre_finite_scores.Facts] (m : (ℓ : Loc Cert.MergeIdeal.nD Cert.MergeIdeal.τ Cert.MergeIdeal.sig) → Buf (Elt Ideal) ℓ) : Prop :=
  ∀ c : Dev Cert.MergeIdeal.nD,
    (Cert.Pre_finite_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).1 = (fun _ => 1#1)
    ∧ (Cert.Pre_finite_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_scores [hPre_finite_scores : Cert.Pre_finite_scores.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_scores.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).1 = (fun _ => 1#1)
    ∧ (Cert.Pre_finite_scores.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_gate [hPre_finite_gate : Cert.Pre_finite_gate.Facts] (m : (ℓ : Loc Cert.FfnIdeal.nD Cert.FfnIdeal.τ Cert.FfnIdeal.sig) → Buf (Elt Ideal) ℓ) : Prop :=
  ∀ c : Dev Cert.FfnIdeal.nD,
    (Cert.Pre_finite_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_finite_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_finite_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_finite_gate.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_gate [hPre_finite_gate : Cert.Pre_finite_gate.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite_gate.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_finite_scores [hMergeIdeal : Cert.MergeIdeal.Facts] [hPre_finite_scores : Cert.Pre_finite_scores.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_scores m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_finite_scores [hMergeRefIdeal : Cert.MergeRefIdeal.Facts] [hPre_finite_scores : Cert.Pre_finite_scores.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_scores m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_gate [hFfnIdeal : Cert.FfnIdeal.Facts] [hPre_finite_gate : Cert.Pre_finite_gate.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_gate m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_gate [hFfnRefIdeal : Cert.FfnRefIdeal.Facts] [hPre_finite_gate : Cert.Pre_finite_gate.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_gate m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8)
      ∧ r.2.mem ((c.tc : Thread Cert.Ssd.nD Cert.Ssd.τ).loc Cert.Ssd.main_arg9) = m ((c.tc : Thread Cert.Ssd.nD Cert.Ssd.τ).loc Cert.Ssd.main_arg9)
      ∧ r.2.mem ((c.tc : Thread Cert.Ssd.nD Cert.Ssd.τ).loc Cert.Ssd.main_arg10) = m ((c.tc : Thread Cert.Ssd.nD Cert.Ssd.τ).loc Cert.Ssd.main_arg10))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8)
      ∧ r.2.mem ((c.tc : Thread Cert.SsdIdeal.nD Cert.SsdIdeal.τ).loc Cert.SsdIdeal.main_arg9) = m ((c.tc : Thread Cert.SsdIdeal.nD Cert.SsdIdeal.τ).loc Cert.SsdIdeal.main_arg9)
      ∧ r.2.mem ((c.tc : Thread Cert.SsdIdeal.nD Cert.SsdIdeal.τ).loc Cert.SsdIdeal.main_arg10) = m ((c.tc : Thread Cert.SsdIdeal.nD Cert.SsdIdeal.τ).loc Cert.SsdIdeal.main_arg10))
      ∧ r.2.sem = fun _ => 0)

def preserves_Merge_MergeIdeal : Prop :=
  True

def algebraic_MergeIdeal_MergeRefIdeal_pre_finite_scores [hMergeIdeal : Cert.MergeIdeal.Facts] [hMergeRefIdeal : Cert.MergeRefIdeal.Facts] [hPre_finite_scores : Cert.Pre_finite_scores.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_scores m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ffn_FfnIdeal : Prop :=
  True

def algebraic_FfnIdeal_FfnRefIdeal_pre_finite_gate [hFfnIdeal : Cert.FfnIdeal.Facts] [hFfnRefIdeal : Cert.FfnRefIdeal.Facts] [hPre_finite_gate : Cert.Pre_finite_gate.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_gate m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v25) = v0 c
          ∧ r.2.mem ((c.tc : Thread Cert.InProjRefIdeal.nD Cert.InProjRefIdeal.τ).loc Cert.InProjRefIdeal.main_v28) = v1 c
          ∧ r.2.mem ((c.tc : Thread Cert.InProjRefIdeal.nD Cert.InProjRefIdeal.τ).loc Cert.InProjRefIdeal.main_v32) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Ssd_SsdIdeal : Prop :=
  True

def Claim : Prop :=
  ∃ (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hSsd : Cert.Ssd.Facts) (hSsdIdeal : Cert.SsdIdeal.Facts) (hPre_finite_scores : Cert.Pre_finite_scores.Facts) (hPre_finite_gate : Cert.Pre_finite_gate.Facts),
    quiescent_Merge (hMerge := hMerge)
    ∧ quiescent_MergeIdeal (hMergeIdeal := hMergeIdeal)
    ∧ quiescent_MergeIdeal_pre_finite_scores (hMergeIdeal := hMergeIdeal) (hPre_finite_scores := hPre_finite_scores)
    ∧ quiescent_MergeRefIdeal (hMergeRefIdeal := hMergeRefIdeal)
    ∧ quiescent_MergeRefIdeal_pre_finite_scores (hMergeRefIdeal := hMergeRefIdeal) (hPre_finite_scores := hPre_finite_scores)
    ∧ quiescent_Ffn (hFfn := hFfn)
    ∧ quiescent_FfnIdeal (hFfnIdeal := hFfnIdeal)
    ∧ quiescent_FfnIdeal_pre_finite_gate (hFfnIdeal := hFfnIdeal) (hPre_finite_gate := hPre_finite_gate)
    ∧ quiescent_FfnRefIdeal (hFfnRefIdeal := hFfnRefIdeal)
    ∧ quiescent_FfnRefIdeal_pre_finite_gate (hFfnRefIdeal := hFfnRefIdeal) (hPre_finite_gate := hPre_finite_gate)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Ssd (hSsd := hSsd)
    ∧ quiescent_SsdIdeal (hSsdIdeal := hSsdIdeal)
    ∧ preserves_Merge_MergeIdeal
    ∧ algebraic_MergeIdeal_MergeRefIdeal_pre_finite_scores (hMergeIdeal := hMergeIdeal) (hMergeRefIdeal := hMergeRefIdeal) (hPre_finite_scores := hPre_finite_scores)
    ∧ preserves_Ffn_FfnIdeal
    ∧ algebraic_FfnIdeal_FfnRefIdeal_pre_finite_gate (hFfnIdeal := hFfnIdeal) (hFfnRefIdeal := hFfnRefIdeal) (hPre_finite_gate := hPre_finite_gate)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_Ssd_SsdIdeal
-- ==== Pre_finite_gate.lean ====
abbrev S2x8192x1024 : Shape := ⟨3, ![2, 8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S1024x2816 : Shape := ⟨2, ![1024, 2816]⟩
abbrev S3x2816 : Shape := ⟨2, ![3, 2816]⟩
abbrev S1x2816 : Shape := ⟨2, ![1, 2816]⟩

class Facts : Prop where
  bcast_S_S1x1024 : S_.BroadcastsInDim S1x1024 (![] : Fin 0 → Fin S1x1024.rank)
  slices_S1024x5632_S1024x2816_0_0 : S1024x5632.Slices ![0, 0] S1024x2816
  bitsLt_bf16_f32 : FTy.bits .bf16 < FTy.bits .f32
  bcast_S_S1024x2816 : S_.BroadcastsInDim S1024x2816 (![] : Fin 0 → Fin S1024x2816.rank)
  slices_S3x5632_S3x2816_0_0 : S3x5632.Slices ![0, 0] S3x2816
  bcast_S_S3x2816 : S_.BroadcastsInDim S3x2816 (![] : Fin 0 → Fin S3x2816.rank)
  slices_S1x5632_S1x2816_0_0 : S1x5632.Slices ![0, 0] S1x2816
  bcast_S_S1x2816 : S_.BroadcastsInDim S1x2816 (![] : Fin 0 → Fin S1x2816.rank)

variable [Facts]

def fn {F : FTy → Type} [FloatOps F] (main_arg0 : FVec F S2x8192x1024 .f32) (main_arg1 : FVec F S1x1024 .f32) (main_arg2 : FVec F S1024x5632 .bf16) (main_arg3 : FVec F S3x5632 .f32) (main_arg4 : FVec F S1x5632 .f32) (main_arg5 : FVec F S2816x1024 .bf16) (main_arg6 : FVec F S1x1024 .f32) : IVec S1x1024 1 × IVec S1024x2816 1 × IVec S3x2816 1 × IVec S1x2816 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x2816 .bf16 := (extractStridedSlice S1024x2816 ![0, 0] · slices_S1024x5632_S1024x2816_0_0) main_arg2
  let main_v4 : FVec F S1024x2816 .f32 := (extf .f32 · bitsLt_bf16_f32) main_v3
  let main_v5 : FVec F S1024x2816 .f32 := Host.absf main_v4
  let main_cst_0 : FVec F S_ .f32 := constant S_ .f32 0x7F800000#32
  let main_v6 : FVec F S1024x2816 .f32 := broadcastInDim S1024x2816 ![] bcast_S_S1024x2816 main_cst_0
  let main_v7 : IVec S1024x2816 1 := cmpf .olt main_v5 main_v6
  let main_v8 : FVec F S3x2816 .f32 := (extractStridedSlice S3x2816 ![0, 0] · slices_S3x5632_S3x2816_0_0) main_arg3
  let main_v9 : FVec F S3x2816 .f32 := Host.absf main_v8
  let main_cst_1 : FVec F S_ .f32 := constant S_ .f32 0x7F800000#32
  let main_v10 : FVec F S3x2816 .f32 := broadcastInDim S3x2816 ![] bcast_S_S3x2816 main_cst_1
  let main_v11 : IVec S3x2816 1 := cmpf .olt main_v9 main_v10
  let main_v12 : FVec F S1x2816 .f32 := (extractStridedSlice S1x2816 ![0, 0] · slices_S1x5632_S1x2816_0_0) main_arg4
  let main_v13 : FVec F S1x2816 .f32 := Host.absf main_v12
  let main_cst_2 : FVec F S_ .f32 := constant S_ .f32 0x7F800000#32
  let main_v14 : FVec F S1x2816 .f32 := broadcastInDim S1x2816 ![] bcast_S_S1x2816 main_cst_2
  let main_v15 : IVec S1x2816 1 := cmpf .olt main_v13 main_v14
  (main_v2, main_v7, main_v11, main_v15)
-- ==== Pre_finite_scores.lean ====
abbrev S2x8192x1024 : Shape := ⟨3, ![2, 8192, 1024]⟩
abbrev S2x8192x2048 : Shape := ⟨3, ![2, 8192, 2048]⟩
abbrev S2x8192x12288 : Shape := ⟨3, ![2, 8192, 12288]⟩
abbrev S2x256x2048 : Shape := ⟨3, ![2, 256, 2048]⟩
abbrev S1x3072 : Shape := ⟨2, ![1, 3072]⟩
abbrev S1024x1024 : Shape := ⟨2, ![1024, 1024]⟩
abbrev S2048x1024 : Shape := ⟨2, ![2048, 1024]⟩
abbrev S_ : Shape := ⟨0, ![]⟩
abbrev S2x256x1024 : Shape := ⟨3, ![2, 256, 1024]⟩

class Facts : Prop where
  slices_S2x8192x12288_S2x8192x1024_0_0_11264 : S2x8192x12288.Slices ![0, 0, 11264] S2x8192x1024
  bcast_S_S2x8192x1024 : S_.BroadcastsInDim S2x8192x1024 (![] : Fin 0 → Fin S2x8192x1024.rank)
  slices_S2x256x2048_S2x256x1024_0_0_0 : S2x256x2048.Slices ![0, 0, 0] S2x256x1024
  bcast_S_S2x256x1024 : S_.BroadcastsInDim S2x256x1024 (![] : Fin 0 → Fin S2x256x1024.rank)

variable [Facts]

def fn {F : FTy → Type} [FloatOps F] (main_arg0 : FVec F S2x8192x1024 .f32) (main_arg1 : FVec F S2x8192x1024 .bf16) (main_arg2 : FVec F S2x8192x2048 .bf16) (main_arg3 : FVec F S2x8192x12288 .bf16) (main_arg4 : FVec F S2x256x2048 .bf16) (main_arg5 : FVec F S1x3072 .f32) (main_arg6 : FVec F S1024x1024 .bf16) (main_arg7 : FVec F S2048x1024 .bf16) (main_arg8 : FVec F S1024x1024 .bf16) (main_arg9 : FVec F S1024x1024 .bf16) : IVec S2x8192x1024 1 × IVec S2x256x1024 1 :=
  let main_v0 : FVec F S2x8192x1024 .bf16 := (extractStridedSlice S2x8192x1024 ![0, 0, 11264] · slices_S2x8192x12288_S2x8192x1024_0_0_11264) main_arg3
  let main_v1 : FVec F S2x8192x1024 .bf16 := Host.absf main_v0
  let main_cst : FVec F S_ .bf16 := constant S_ .bf16 0x7F80#16
  let main_v2 : FVec F S2x8192x1024 .bf16 := broadcastInDim S2x8192x1024 ![] bcast_S_S2x8192x1024 main_cst
  let main_v3 : IVec S2x8192x1024 1 := cmpf .olt main_v1 main_v2
  let main_v4 : FVec F S2x256x1024 .bf16 := (extractStridedSlice S2x256x1024 ![0, 0, 0] · slices_S2x256x2048_S2x256x1024_0_0_0) main_arg4
  let main_v5 : FVec F S2x256x1024 .bf16 := Host.absf main_v4
  let main_cst_0 : FVec F S_ .bf16 := constant S_ .bf16 0x7F80#16
  let main_v6 : FVec F S2x256x1024 .bf16 := broadcastInDim S2x256x1024 ![] bcast_S_S2x256x1024 main_cst_0
  let main_v7 : IVec S2x256x1024 1 := cmpf .olt main_v5 main_v6
  (main_v3, main_v7)
-- ==== Merge.lean ====
abbrev S2x8192x1024 : Shape := ⟨3, ![2, 8192, 1024]⟩
abbrev S2x8192x2048 : Shape := ⟨3, ![2, 8192, 2048]⟩
abbrev S2x8192x12288 : Shape := ⟨3, ![2, 8192, 12288]⟩
abbrev S2x256x2048 : Shape := ⟨3, ![2, 256, 2048]⟩
abbrev S1x3072 : Shape := ⟨2, ![1, 3072]⟩
abbrev S1024x1024 : Shape := ⟨2, ![1024, 1024]⟩
abbrev S2048x1024 : Shape := ⟨2, ![2048, 1024]⟩
abbrev S1x512x1024 : Shape := ⟨3, ![1, 512, 1024]⟩
abbrev S1x512x2048 : Shape := ⟨3, ![1, 512, 2048]⟩
abbrev S1x512x3072 : Shape := ⟨3, ![1, 512, 3072]⟩
abbrev S1x256x2048 : Shape := ⟨3, ![1, 256, 2048]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S512x3072 : Shape := ⟨2, ![512, 3072]⟩
abbrev S512x2048 : Shape := ⟨2, ![512, 2048]⟩

abbrev nBuf : Space → Nat
  | .hbm => 11
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x2048, .bf16⟩
  | .hbm, ⟨3, _⟩ => ⟨S2x8192x12288, .bf16⟩
  | .hbm, ⟨4, _⟩ => ⟨S2x256x2048, .bf16⟩
  | .hbm, ⟨5, _⟩ => ⟨S1x3072, .f32⟩
  | .hbm, ⟨6, _⟩ => ⟨S1024x1024, .bf16⟩
  | .hbm, ⟨7, _⟩ => ⟨S2048x1024, .bf16⟩
  | .hbm, ⟨8, _⟩ => ⟨S1024x1024, .bf16⟩
  | .hbm, ⟨9, _⟩ => ⟨S1024x1024, .bf16⟩
  | .hbm, ⟨10, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x3072, .bf16⟩
  | .local _ .vmem, ⟨9, _⟩ => ⟨S1x512x3072, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x3072, .f32⟩
  | .local _ .vmem, ⟨13, _⟩ => ⟨S1024x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S2x8192x1024 : Shape := ⟨3, ![2, 8192, 1024]⟩
abbrev S2x8192x2048 : Shape := ⟨3, ![2, 8192, 2048]⟩
abbrev S2x8192x12288 : Shape := ⟨3, ![2, 8192, 12288]⟩
abbrev S2x256x2048 : Shape := ⟨3, ![2, 256, 2048]⟩
abbrev S1x3072 : Shape := ⟨2, ![1, 3072]⟩
abbrev S1024x1024 : Shape := ⟨2, ![1024, 1024]⟩
abbrev S2048x1024 : Shape := ⟨2, ![2048, 1024]⟩
abbrev S2x8192x3072 : Shape := ⟨3, ![2, 8192, 3072]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S_ : Shape := ⟨0, ![]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S3072 : Shape := ⟨1, ![3072]⟩
abbrev S1x1x3072 : Shape := ⟨3, ![1, 1, 3072]⟩
abbrev S2x8192x3x1024 : Shape := ⟨4, ![2, 8192, 3, 1024]⟩
abbrev S2x8192x1x1024 : Shape := ⟨4, ![2, 8192, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x8192x2048, .bf16⟩
  | .hbm, ⟨3, _⟩ => ⟨S2x8192x12288, .bf16⟩
  | .hbm, ⟨4, _⟩ => ⟨S2x256x2048, .bf16⟩
  | .hbm, ⟨5, _⟩ => ⟨S1x3072, .f32⟩
  | .hbm, ⟨6, _⟩ => ⟨S1024x1024, .bf16⟩
  | .hbm, ⟨7, _⟩ => ⟨S2048x1024, .bf16⟩
  | .hbm, ⟨8, _⟩ => ⟨S1024x1024, .bf16⟩
  | .hbm, ⟨9, _⟩ => ⟨S1024x1024, .bf16⟩
  | .hbm, ⟨10, _⟩ => ⟨S2x8192x12288, .f32⟩
  | .hbm, ⟨11, _⟩ => ⟨S2x256x2048, .f32⟩
  | .hbm, ⟨12, _⟩ => ⟨S2x8192x3072, .f32⟩
  | .hbm, ⟨13, _⟩ => ⟨S2x8192x1024, .f32⟩
  | .hbm, ⟨14, _⟩ => ⟨S2x8192x4x256, .f32⟩
  | .hbm, ⟨15, _⟩ => ⟨S2x256x1024, .f32⟩
  | .hbm, ⟨16, _⟩ => ⟨S2x256x4x256, .f32⟩
  | .hbm, ⟨17, _⟩ => ⟨S2x256x1024, .f32⟩
  | .hbm, ⟨18, _⟩ => ⟨S2x256x4x256, .f32⟩
  | .hbm, ⟨19, _⟩ => ⟨S_, .f32⟩
  | .hbm, ⟨20, _⟩ => ⟨S2x8192x4x256, .f32⟩
  | .hbm, ⟨21, _⟩ => ⟨S2x8192x4x256, .f32⟩
  | .hbm, ⟨22, _⟩ => ⟨S2x4x8192x256, .f32⟩
  | .hbm, ⟨23, _⟩ => ⟨S_, .f32⟩
  | .hbm, ⟨24, _⟩ => ⟨S2x4x8192, .f32⟩
  | .hbm, ⟨25, _⟩ => ⟨S_, .f32⟩
  | .hbm, ⟨26, _⟩ => ⟨S2x4x8192, .f32⟩
  | .hbm, ⟨27, _⟩ => ⟨S2x4x8192, .f32⟩
  | .hbm, ⟨28, _⟩ => ⟨S2x4x8192x1, .f32⟩
  | .hbm, ⟨29, _⟩ => ⟨S2x4x8192x256, .f32⟩
  | .hbm, ⟨30, _⟩ => ⟨S2x4x8192x256, .f32⟩
  | .hbm, ⟨31, _⟩ => ⟨S2x4x8192x256, .f32⟩
  | .hbm, ⟨32, _⟩ => ⟨S_, .f32⟩
  | .hbm, ⟨33, _⟩ => ⟨S2x4x8192, .f32⟩
  | .hbm, ⟨34, _⟩ => ⟨S2x4x8192x1, .f32⟩
  | .hbm, ⟨35, _⟩ => ⟨S2x4x8192x256, .f32⟩
  | .hbm, ⟨36, _⟩ => ⟨S2x4x8192x256, .f32⟩
  | .hbm, ⟨37, _⟩ => ⟨S2x4x256x8192, .f32⟩
  | .hbm, ⟨38, _⟩ => ⟨S2x8192x4x256, .f32⟩
  | .hbm, ⟨39, _⟩ => ⟨S2x8192x1024, .f32⟩
  | .hbm, ⟨40, _⟩ => ⟨S3072, .f32⟩
  | .hbm, ⟨41, _⟩ => ⟨S1x1x3072, .f32⟩
  | .hbm, ⟨42, _⟩ => ⟨S2x8192x3072, .f32⟩
  | .hbm, ⟨43, _⟩ => ⟨S2x8192x3072, .f32⟩
  | .hbm, ⟨44, _⟩ => ⟨S2x8192x3x1024, .f32⟩
  | .hbm, ⟨45, _⟩ => ⟨S2x8192x3x1024, .f32⟩
  | .hbm, ⟨46, _⟩ => ⟨S2x8192x3x1024, .f32⟩
  | .hbm, ⟨47, _⟩ => ⟨S_, .f32⟩
  | .hbm, ⟨48, _⟩ => ⟨S2x8192x3x1024, .f32⟩
  | .hbm, ⟨49, _⟩ => ⟨S2x8192x3x1024, .f32⟩
  | .hbm, ⟨50, _⟩ => ⟨S_, .f32⟩
  | .hbm, ⟨51, _⟩ => ⟨S2x8192x3x1024, .f32⟩
  | .hbm, ⟨52, _⟩ => ⟨S2x8192x3x1024, .f32⟩
  | .hbm, ⟨53, _⟩ => ⟨S2x8192x1x1024, .f32⟩
  | .hbm, ⟨54, _⟩ => ⟨S2x8192x1024, .f32⟩
  | .hbm, ⟨55, _⟩ => ⟨S2x8192x1024, .f32⟩
  | .hbm, ⟨56, _⟩ => ⟨S1024x1024, .f32⟩
  | .hbm, ⟨57, _⟩ => ⟨S2x8192x1024, .f32⟩
  | .hbm, ⟨58, _⟩ => ⟨S2x8192x1024, .f32⟩
  | .hbm, ⟨59, _⟩ => ⟨S2x8192x1x1024, .f32⟩
  | .hbm, ⟨60, _⟩ => ⟨S2x8192x1024, .f32⟩
  | .hbm, ⟨61, _⟩ => ⟨S2x8192x2048, .f32⟩
  | .hbm, ⟨62, _⟩ => ⟨S2048x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1x1024, .f32⟩
  | .hbm, ⟨67, _⟩ => ⟨S2x8192x1024, .f32⟩
  | .hbm, ⟨68, _⟩ => ⟨S1024x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S1024x1024, .f32⟩
  | .hbm, ⟨73, _⟩ => ⟨S2x8192x1024, .f32⟩
  | .hbm, ⟨74, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Ffn.lean ====
abbrev S2x8192x1024 : Shape := ⟨3, ![2, 8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x512x1024 : Shape := ⟨3, ![1, 512, 1024]⟩
abbrev S528x5632 : Shape := ⟨2, ![528, 5632]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 8
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S528x5632, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S2x8192x1024 : Shape := ⟨3, ![2, 8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S5632 : Shape := ⟨1, ![5632]⟩
abbrev S1x1x5632 : Shape := ⟨3, ![1, 1, 5632]⟩
abbrev S2x8192x2816 : Shape := ⟨3, ![2, 8192, 2816]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x5632, .f32⟩
  | .hbm, ⟨25, _⟩ => ⟨S2x8192x5632, .f32⟩
  | .hbm, ⟨26, _⟩ => ⟨S_, .i32⟩
  | .hbm, ⟨27, _⟩ => ⟨S_, .f32⟩
  | .hbm, ⟨28, _⟩ => ⟨S2x8194x5632, .f32⟩
  | .hbm, ⟨29, _⟩ => ⟨S2x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S_, .f32⟩
  | .hbm, ⟨36, _⟩ => ⟨S2x8192x5632, .f32⟩
  | .hbm, ⟨37, _⟩ => ⟨S2x8192x5632, .f32⟩
  | .hbm, ⟨38, _⟩ => ⟨S2x8192x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S2x8192x5632, .f32⟩
  | .hbm, ⟨50, _⟩ => ⟨S2x8192x5632, .f32⟩
  | .hbm, ⟨51, _⟩ => ⟨S2x8192x5632, .f32⟩
  | .hbm, ⟨52, _⟩ => ⟨S5632, .f32⟩
  | .hbm, ⟨53, _⟩ => ⟨S1x1x5632, .f32⟩
  | .hbm, ⟨54, _⟩ => ⟨S2x8192x5632, .f32⟩
  | .hbm, ⟨55, _⟩ => ⟨S2x8192x5632, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2816x1024, .f32⟩
  | .hbm, ⟨69, _⟩ => ⟨S2x8192x1024, .f32⟩
  | .hbm, ⟨70, _⟩ => ⟨S2x8192x1024, .f32⟩
  | .hbm, ⟨71, _⟩ => ⟨S1024, .f32⟩
  | .hbm, ⟨72, _⟩ => ⟨S2x8192x1024, .f32⟩
  | .hbm, ⟨73, _⟩ => ⟨S_, .f32⟩
  | .hbm, ⟨74, _⟩ => ⟨S2x8192, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x1, .f32⟩
  | .hbm, ⟨83, _⟩ => ⟨S2x8192x1024, .f32⟩
  | .hbm, ⟨84, _⟩ => ⟨S2x8192x1024, .f32⟩
  | .hbm, ⟨85, _⟩ => ⟨S1x1x1024, .f32⟩
  | .hbm, ⟨86, _⟩ => ⟨S2x8192x1024, .f32⟩
  | .hbm, ⟨87, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== InProj.lean ====
abbrev S16384x1024 : Shape := ⟨2, ![16384, 1024]⟩
abbrev S1x1024 : Shape := ⟨2, ![1, 1024]⟩
abbrev S12320x1024 : Shape := ⟨2, ![12320, 1024]⟩
abbrev S128x1024 : Shape := ⟨2, ![128, 1024]⟩
abbrev S12 : Shape := ⟨1, ![12]⟩
abbrev S16384x12288 : Shape := ⟨2, ![16384, 12288]⟩
abbrev S16384x128 : Shape := ⟨2, ![16384, 128]⟩
abbrev S8x8x1024 : Shape := ⟨3, ![8, 8, 1024]⟩
abbrev S2048x1024 : Shape := ⟨2, ![2048, 1024]⟩
abbrev S1024x1024 : Shape := ⟨2, ![1024, 1024]⟩
abbrev S1 : Shape := ⟨1, ![1]⟩
abbrev S2048x128 : Shape := ⟨2, ![2048, 128]⟩
abbrev S1x8x1024 : Shape := ⟨3, ![1, 8, 1024]⟩
abbrev S2048 : Shape := ⟨1, ![2048]⟩
abbrev S2048x1 : Shape := ⟨2, ![2048, 1]⟩
abbrev S256x1024 : Shape := ⟨2, ![256, 1024]⟩
abbrev S1024 : Shape := ⟨1, ![1024]⟩
abbrev S1x1x1024 : Shape := ⟨3, ![1, 1, 1024]⟩

abbrev nBuf : Space → Nat
  | .hbm => 7
  | .vmem => 13
  | .smem => 1
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S12320x1024, .bf16⟩
  | .hbm, ⟨3, _⟩ => ⟨S128x1024, .bf16⟩
  | .hbm, ⟨4, _⟩ => ⟨S16384x12288, .bf16⟩
  | .hbm, ⟨5, _⟩ => ⟨S16384x128, .f32⟩
  | .hbm, ⟨6, _⟩ => ⟨S8x8x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S128x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x128, .f32⟩
  | .local _ .vmem, ⟨9, _⟩ => ⟨S2048x128, .f32⟩
  | .local _ .vmem, ⟨10, _⟩ => ⟨S1x8x1024, .f32⟩
  | .local _ .vmem, ⟨11, _⟩ => ⟨S1x8x1024, .f32⟩
  | .local _ .vmem, ⟨12, _⟩ => ⟨S2048x1024, .bf16⟩
  | .local _ .smem, ⟨0, _⟩ => ⟨S12, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 12], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c8_i32 : BitVec 32 := 8#32
  let v1 : BitVec 1 := Scalar.cmpi .sge arg1 c8_i32
  let c32_i32 : BitVec 32 := 32#32
  let c0_i32 : BitVec 32 := 0#32
  let v2 : BitVec 32 := Scalar.select v1 c32_i32 c0_i32
  let v3 : BitVec 32 := Scalar.addi v0 v2
  v3
def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8_i32 : BitVec 32 := 8#32
  let v1 : BitVec 1 := Scalar.cmpi .sge arg1 c8_i32
  let c32_i32 : BitVec 32 := 32#32
  let c0_i32 : BitVec 32 := 0#32
  let v2 : BitVec 32 := Scalar.select v1 c32_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S12) ![v0.toNat] S1.size (k0_off1_inb i)) numel1_S1
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InProjRefIdeal.lean ====
abbrev S16384x1024 : Shape := ⟨2, ![16384, 1024]⟩
abbrev S1x1024 : Shape := ⟨2, ![1, 1024]⟩
abbrev S12320x1024 : Shape := ⟨2, ![12320, 1024]⟩
abbrev S128x1024 : Shape := ⟨2, ![128, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x12320 : Shape := ⟨2, ![1024, 12320]⟩
abbrev S16384x12320 : Shape := ⟨2, ![16384, 12320]⟩
abbrev S16384x2048 : Shape := ⟨2, ![16384, 2048]⟩
abbrev S16384x3072 : Shape := ⟨2, ![16384, 3072]⟩
abbrev S16384x12288 : Shape := ⟨2, ![16384, 12288]⟩
abbrev S1024x128 : Shape := ⟨2, ![1024, 128]⟩
abbrev S16384x128 : Shape := ⟨2, ![16384, 128]⟩
abbrev S8x8x256x1024 : Shape := ⟨4, ![8, 8, 256, 1024]⟩
abbrev S8x8x1024 : Shape := ⟨3, ![8, 8, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S12320x1024, .bf16⟩
  | .hbm, ⟨3, _⟩ => ⟨S128x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S12320x1024, .f32⟩
  | .hbm, ⟨22, _⟩ => ⟨S1024x12320, .f32⟩
  | .hbm, ⟨23, _⟩ => ⟨S16384x12320, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x2048, .f32⟩
  | .hbm, ⟨28, _⟩ => ⟨S16384x3072, .f32⟩
  | .hbm, ⟨29, _⟩ => ⟨S16384x1024, .f32⟩
  | .hbm, ⟨30, _⟩ => ⟨S16384x3072, .f32⟩
  | .hbm, ⟨31, _⟩ => ⟨S16384x12288, .f32⟩
  | .hbm, ⟨32, _⟩ => ⟨S16384x12288, .bf16⟩
  | .hbm, ⟨33, _⟩ => ⟨S128x1024, .f32⟩
  | .hbm, ⟨34, _⟩ => ⟨S1024x128, .f32⟩
  | .hbm, ⟨35, _⟩ => ⟨S16384x128, .f32⟩
  | .hbm, ⟨36, _⟩ => ⟨S8x8x256x1024, .f32⟩
  | .hbm, ⟨37, _⟩ => ⟨S_, .f32⟩
  | .hbm, ⟨38, _⟩ => ⟨S8x8x1024, .f32⟩
  | .hbm, ⟨39, _⟩ => ⟨S_, .f32⟩
  | .hbm, ⟨40, _⟩ => ⟨S8x8x1024, .f32⟩
  | .hbm, ⟨41, _⟩ => ⟨S8x8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== MemKv.lean ====
abbrev S512x1024 : Shape := ⟨2, ![512, 1024]⟩
abbrev S1x1024 : Shape := ⟨2, ![1, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .bf16⟩
  | .hbm, ⟨3, _⟩ => ⟨S512x2048, .bf16⟩
  | .local _ .vmem, ⟨0, _⟩ => ⟨S512x1024, .f32⟩
  | .local _ .vmem, ⟨1, _⟩ => ⟨S1x1024, .f32⟩
  | .local _ .vmem, ⟨2, _⟩ => ⟨S1024x2048, .bf16⟩
  | .local _ .vmem, ⟨3, _⟩ => ⟨S512x2048, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemKvRefIdeal.lean ====
abbrev S512x1024 : Shape := ⟨2, ![512, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S512 : Shape := ⟨1, ![512]⟩
abbrev S512x1 : Shape := ⟨2, ![512, 1]⟩
abbrev S512x2048 : Shape := ⟨2, ![512, 2048]⟩

abbrev nBuf : Space → Nat
  | .hbm => 23
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2048, .bf16⟩
  | .hbm, ⟨3, _⟩ => ⟨S1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S1024x2048, .f32⟩
  | .hbm, ⟨21, _⟩ => ⟨S512x2048, .f32⟩
  | .hbm, ⟨22, _⟩ => ⟨S512x2048, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Ssd.lean ====
abbrev S2x8192x12288 : Shape := ⟨3, ![2, 8192, 12288]⟩
abbrev S2x8192x128 : Shape := ⟨3, ![2, 8192, 128]⟩
abbrev S4x3072 : Shape := ⟨2, ![4, 3072]⟩
abbrev S1x3072 : Shape := ⟨2, ![1, 3072]⟩
abbrev S1x128 : Shape := ⟨2, ![1, 128]⟩
abbrev S1x2048 : Shape := ⟨2, ![1, 2048]⟩
abbrev S256x768 : Shape := ⟨2, ![256, 768]⟩
abbrev S256x2048 : Shape := ⟨2, ![256, 2048]⟩
abbrev S3x256x256 : Shape := ⟨3, ![3, 256, 256]⟩
abbrev S2x8192x2048 : Shape := ⟨3, ![2, 8192, 2048]⟩
abbrev S1x256x3072 : Shape := ⟨3, ![1, 256, 3072]⟩
abbrev S1x256x2048 : Shape := ⟨3, ![1, 256, 2048]⟩
abbrev S1x256x128 : Shape := ⟨3, ![1, 256, 128]⟩
abbrev S16x3072 : Shape := ⟨2, ![16, 3072]⟩
abbrev S4x128x512 : Shape := ⟨3, ![4, 128, 512]⟩
abbrev S256x512 : Shape := ⟨2, ![256, 512]⟩
abbrev S256x128 : Shape := ⟨2, ![256, 128]⟩
abbrev S768x128 : Shape := ⟨2, ![768, 128]⟩
abbrev S128x256 : Shape := ⟨2, ![128, 256]⟩
abbrev S256x256 : Shape := ⟨2, ![256, 256]⟩
abbrev S1x256x256 : Shape := ⟨3, ![1, 256, 256]⟩
abbrev S1x256 : Shape := ⟨2, ![1, 256]⟩
abbrev S8x256 : Shape := ⟨2, ![8, 256]⟩
abbrev S248x256 : Shape := ⟨2, ![248, 256]⟩
abbrev S1x128x512 : Shape := ⟨3, ![1, 128, 512]⟩
abbrev S128x512 : Shape := ⟨2, ![128, 512]⟩
abbrev S256x1 : Shape := ⟨2, ![256, 1]⟩
abbrev S1x512 : Shape := ⟨2, ![1, 512]⟩
abbrev S1x256x512 : Shape := ⟨3, ![1, 256, 512]⟩
abbrev S256 : Shape := ⟨1, ![256]⟩

abbrev nBuf : Space → Nat
  | .hbm => 12
  | .vmem => 25
  | .smem => 0
  | _ => 0

abbrev bufTy : (tb : Table) → Fin (tcTables nBuf tb) → BufTy
  | .hbm, ⟨0, _⟩ => ⟨S2x8192x12288, .bf16⟩
  | .hbm, ⟨1, _⟩ => ⟨S2x8192x128, .f32⟩
  | .hbm, ⟨2, _⟩ => ⟨S4x3072, .f32⟩
  | .hbm, ⟨3, _⟩ => ⟨S1x3072, .f32⟩
  | .hbm, ⟨4, _⟩ => ⟨S1x128, .f32⟩
  | .hbm, ⟨5, _⟩ => ⟨S1x128, .f32⟩
  | .hbm, ⟨6, _⟩ => ⟨S1x2048, .f32⟩
  | .hbm, ⟨7, _⟩ => ⟨S1x2048, .f32⟩
  | .hbm, ⟨8, _⟩ => ⟨S256x768, .bf16⟩
  | .hbm, ⟨9, _⟩ => ⟨S256x2048, .bf16⟩
  | .hbm, ⟨10, _⟩ => ⟨S3x256x256, .bf16⟩
  | .hbm, ⟨11, _⟩ => ⟨S2x8192x2048, .bf16⟩
  | .local _ .vmem, ⟨0, _⟩ => ⟨S1x256x3072, .bf16⟩
  | .local _ .vmem, ⟨1, _⟩ => ⟨S1x256x3072, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x128, .f32⟩
  | .local _ .vmem, ⟨5, _⟩ => ⟨S1x256x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S256x768, .bf16⟩
  | .local _ .vmem, ⟨13, _⟩ => ⟨S256x2048, .bf16⟩
  | .local _ .vmem, ⟨14, _⟩ => ⟨S3x256x256, .bf16⟩
  | .local _ .vmem, ⟨15, _⟩ => ⟨S1x256x2048, .bf16⟩
  | .local _ .vmem, ⟨16, _⟩ => ⟨S1x256x2048, .bf16⟩
  | .local _ .vmem, ⟨17, _⟩ => ⟨S16x3072, .f32⟩
  | .local _ .vmem, ⟨18, _⟩ => ⟨S4x128x512, .f32⟩
  | .local _ .vmem, ⟨19, _⟩ => ⟨S256x2048, .f32⟩
  | .local _ .vmem, ⟨20, _⟩ => ⟨S256x2048, .bf16⟩
  | .local _ .vmem, ⟨21, _⟩ => ⟨S256x2048, .f32⟩
  | .local _ .vmem, ⟨22, _⟩ => ⟨S256x2048, .bf16⟩
  | .local _ .vmem, ⟨23, _⟩ => ⟨S256x512, .f32⟩
  | .local _ .vmem, ⟨24, _⟩ => ⟨S256x512, .bf16⟩
  | _, _ => ⟨S2x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.Softmax.lean ====
/-
  Arithmetic on the extended reals shared by the value proofs: the programs' float constants, a product with a positive
  real over a sum, and the normalized exponential sum with its division inside or outside the sum.
-/
module

public import Idealize.ShloMosaic.PureOps.Ideal
public import Idealize.ShloMosaic.Lib.Pointwise

@[expose] public section
noncomputable section
open Idealize.ShloMosaic Idealize.SL.Sem
namespace Cert.Hand

theorem ofBits_sixteenth : Ideal.ofBits FTy.f32 0x3D800000#32 = (((1 / 16 : ℝ)) : EReal) := by
  simp [Ideal.ofBits, Ideal.ieee, -EReal.coe_mul]; norm_num

theorem ofBits_neg_inf : Ideal.ofBits FTy.f32 0xFF800000#32 = (⊥ : EReal) := by
  simp [Ideal.ofBits, Ideal.ieee, -EReal.coe_mul]

/-- A nonnegative real distributes over a finite sum of extended reals. -/
theorem coe_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

theorem sum_mul_coe {ι : Type} (s : Finset ι) (f : ι → EReal) (r : ℝ) (hr : 0 ≤ r) :
    (∑ i ∈ s, f i) * (r : EReal) = ∑ i ∈ s, f i * (r : EReal) := by
  rw [mul_comm, coe_mul_sum s f r hr]
  exact Finset.sum_congr rfl fun i _ => mul_comm _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real scores is one of them. -/
theorem fold_max_real {n : Nat} [NeZero n] (s : Fin n → EReal) (σ : Fin n → ℝ) (h : ∀ m, s m = (σ m : EReal)) :
    ∃ M : ℝ, Finset.univ.fold max ⊥ s = (M : EReal) := by
  obtain ⟨i, -, hi⟩ := Finset.exists_mem_eq_sup Finset.univ ⟨(0 : Fin n), Finset.mem_univ _⟩ s
  exact ⟨σ i, by rw [← h i, ← hi]; rfl⟩

/-- Real scores: the weighted sum divided once by the sum of the weights is the sum of the divided weights. -/
theorem softmax_div {n : Nat} [NeZero n] (s v : Fin n → EReal) (σ : Fin n → ℝ) (h : ∀ m, s m = (σ m : EReal)) :
    Ideal.div (∑ m, Ideal.exp (s m - Finset.univ.fold max ⊥ s) * v m)
        (∑ m, Ideal.exp (s m - Finset.univ.fold max ⊥ s))
      = ∑ m, v m * Ideal.div (Ideal.exp (s m - max ⊥ (Finset.univ.fold max ⊥ s)))
          (0 + ∑ m, Ideal.exp (s m - max ⊥ (Finset.univ.fold max ⊥ s))) := by
  obtain ⟨M, hM⟩ := fold_max_real s σ h
  have hmax : max (⊥ : EReal) (M : EReal) = (M : EReal) := max_eq_right bot_le
  have he : ∀ m, Ideal.exp (s m - (M : EReal)) = ((Real.exp (σ m - M) : ℝ) : EReal) := fun m => by
    rw [h m, ← EReal.coe_sub, Ideal.exp_coe]
  have hpos : 0 < ∑ m, Real.exp (σ m - M) := Finset.sum_pos (fun m _ => Real.exp_pos _) ⟨0, Finset.mem_univ _⟩
  rw [hM, hmax]
  simp only [he, ← coe_sum, zero_add]
  rw [Ideal.div_coe hpos.ne', sum_mul_coe _ _ _ (by positivity)]
  refine Finset.sum_congr rfl fun m _ => ?_
  rw [Ideal.div_coe hpos.ne', mul_comm _ (v m), mul_assoc]

/-- Finite queries and keys: the scaled score is a real, and the scale may be put on the query. -/
theorem score_real {n : Nat} (q k : Fin n → EReal) (hq : ∀ d, ∃ r : ℝ, q d = r) (hk : ∀ d, ∃ r : ℝ, k d = r) (c : ℝ) :
    ∃ σ : ℝ, (∑ d, q d * k d) * (c : EReal) = σ ∧ ∑ d, q d * (c : EReal) * k d = σ := by
  choose q' hq' using hq
  choose k' hk' using hk
  refine ⟨(∑ d, q' d * k' d) * c, ?_, ?_⟩
  · simp only [hq', hk', ← EReal.coe_mul, ← coe_sum]
  · simp only [hq', hk', ← EReal.coe_mul, ← coe_sum, Finset.sum_mul]
    refine congrArg _ (Finset.sum_congr rfl fun d _ => by ring)

/-- One entry of the memory attention: the kernel's form is the reference's. -/
theorem attn_eq {n p : Nat} [NeZero n] (q : Fin p → EReal) (K : Fin n → Fin p → EReal) (v : Fin n → EReal)
    (hq : ∀ d, ∃ r : ℝ, q d = r) (hK : ∀ m d, ∃ r : ℝ, K m d = r) (c : ℝ) :
    Ideal.div (∑ m, Ideal.exp ((∑ d, q d * K m d) * (c : EReal) - Finset.univ.fold max ⊥ fun m => (∑ d, q d * K m d) * (c : EReal)) * v m)
        (∑ m, Ideal.exp ((∑ d, q d * K m d) * (c : EReal) - Finset.univ.fold max ⊥ fun m => (∑ d, q d * K m d) * (c : EReal)))
      = ∑ m, v m * Ideal.div (Ideal.exp ((∑ d, q d * (c : EReal) * K m d) - max ⊥ (Finset.univ.fold max ⊥ fun m => ∑ d, q d * (c : EReal) * K m d)))
          (0 + ∑ m, Ideal.exp ((∑ d, q d * (c : EReal) * K m d) - max ⊥ (Finset.univ.fold max ⊥ fun m => ∑ d, q d * (c : EReal) * K m d))) := by
  choose σ h1 h2 using fun m => score_real q (K m) hq (hK m) c
  have e : (fun m => (∑ d, q d * K m d) * (c : EReal)) = fun m => ∑ d, q d * (c : EReal) * K m d :=
    funext fun m => (h1 m).trans (h2 m).symm
  have := softmax_div (fun m => ∑ d, q d * (c : EReal) * K m d) v σ h2
  simp only [fun m => congrFun e m] at *
  exact this

end Cert.Hand
end
-- ==== Proof.MergeKer.lean ====
module

public import proofs.«01_k».proof.Defs
public import proofs.«01_k».proof.Proof.Gen.MergeIdeal.Value
public import Idealize.ShloMosaic.Lib.Pointwise

@[expose] public section
noncomputable section
open Idealize.ShloMosaic Idealize.ShloMosaic.TcCoe Idealize.SL.Sem
namespace Cert.MergeIdeal.Hand
open Cert.MergeIdeal Cert.MergeIdeal.Gen Idealize.ShloMosaic.Pointwise

/-- One entry of one head of the attention over the memory keys, from the query row and the key and value rows. -/
def head (q : Fin 256 → EReal) (K : Fin 256 → Fin 256 → EReal) (v : Fin 256 → EReal) : EReal :=
  Ideal.div (∑ m, Ideal.exp ((∑ d, q d * K m d) * Ideal.ofBits .f32 0x3D800000#32
          - Finset.univ.fold max (Ideal.ofBits .f32 0xFF800000#32) fun m => (∑ d, q d * K m d) * Ideal.ofBits .f32 0x3D800000#32) * v m)
    (∑ m, Ideal.exp ((∑ d, q d * K m d) * Ideal.ofBits .f32 0x3D800000#32
          - Finset.univ.fold max (Ideal.ofBits .f32 0xFF800000#32) fun m => (∑ d, q d * K m d) * Ideal.ofBits .f32 0x3D800000#32))

/-- Head `h` of a row: the row's queries and the memory rows read at the head's columns. -/
def headAt (x3 : Vec Ideal S1x512x1024 .bf16) (x5 : Vec Ideal S1x256x2048 .bf16) (r : Fin 512) (h : Fin 4) (j : Fin 256) : EReal :=
  head (fun d => x3 (ix3 0 r ⟨h.val * 256 + d.val, by omega⟩)) (fun m d => x5 (ix3 0 m ⟨h.val * 256 + d.val, by omega⟩))
    (fun m => x5 (ix3 0 m ⟨1024 + h.val * 256 + j.val, by omega⟩))

variable (x3 : Vec Ideal S1x512x1024 .bf16) (x5 : Vec Ideal S1x256x2048 .bf16)

set_option maxRecDepth 16384
set_option maxHeartbeats 2000000

theorem pay4_apply (r : Fin 512) (j : Fin 256) : k0_pay4 (F := Ideal) x3 x5 (ix2 r j) = headAt x3 x5 r 0 j := by
  unfold headAt head
  pointwise [k0_pay4, k0_pay2, k0_pay3]

theorem pay5_apply (r : Fin 512) (j : Fin 256) : k0_pay5 (F := Ideal) x3 x5 (ix2 r j) = headAt x3 x5 r 1 j := by
  unfold headAt head
  pointwise [k0_pay5, k0_pay2, k0_pay3]

/-- The attention over the memory, the four heads side by side. -/
def memAt (r : Fin 512) (j : Fin 1024) : EReal :=
  headAt x3 x5 r ⟨j.val / 256, by omega⟩ ⟨j.val % 256, by omega⟩

theorem memAt_of (r : Fin 512) (j : Fin 1024) (h : Fin 4) (d : Fin 256) (e : j.val = h.val * 256 + d.val) :
    memAt x3 x5 r j = headAt x3 x5 r h d := by
  unfold memAt
  congr 1 <;> refine Fin.ext ?_ <;> simp <;> omega

theorem pay9_ite (a b : FVec Ideal S512x256 .f32) (r : Fin 512) (j : Fin 1024) :
    k0_pay9 (F := Ideal) (k0_pay2 x3) (k0_pay3 x5) a b (k0_pay6 x3) (k0_pay7 x5) (k0_pay8 x5)
      (constant S512x256 .f32 0x00000000#32) (ix2 r j)
      = if h0 : j.val < 256 then a (ix2 r ⟨j.val, h0⟩)
        else if h1 : j.val - 256 < 256 then b (ix2 r ⟨j.val - 256, h1⟩)
        else if h2 : j.val - 256 - 256 < 256 then headAt x3 x5 r 2 ⟨j.val - 256 - 256, h2⟩
        else headAt x3 x5 r 3 ⟨j.val - 256 - 256 - 256, by omega⟩ := by
  unfold headAt head
  pointwise [k0_pay9, k0_pay8, k0_pay7, k0_pay6, k0_pay3, k0_pay2]

theorem pay9_apply (r : Fin 512) (j : Fin 1024) :
    k0_pay9 (F := Ideal) (k0_pay2 x3) (k0_pay3 x5) (k0_pay4 x3 x5) (k0_pay5 x3 x5) (k0_pay6 x3) (k0_pay7 x5) (k0_pay8 x5)
      (constant S512x256 .f32 0x00000000#32) (ix2 r j) = memAt x3 x5 r j := by
  rw [pay9_ite]
  have hj := j.isLt
  by_cases c0 : j.val < 256
  · rw [dif_pos c0, pay4_apply, memAt_of x3 x5 r j 0 ⟨j.val, c0⟩ (by simp)]
  rw [dif_neg c0]
  by_cases c1 : j.val - 256 < 256
  · rw [dif_pos c1, pay5_apply, memAt_of x3 x5 r j 1 ⟨j.val - 256, c1⟩ (by simp; omega)]
  rw [dif_neg c1]
  by_cases c2 : j.val - 256 - 256 < 256
  · rw [dif_pos c2, memAt_of x3 x5 r j 2 ⟨j.val - 256 - 256, c2⟩ (by simp; omega)]
  rw [dif_neg c2, memAt_of x3 x5 r j 3 ⟨j.val - 256 - 256 - 256, by omega⟩ (by simp; omega)]

/-- What one block of rows becomes: the three gated branches summed, projected, and added to the block. -/
def rowAt (x0 : Vec Ideal S1x512x1024 .f32) (x1 : Vec Ideal S1x512x1024 .bf16) (x2 : Vec Ideal S1x512x2048 .bf16)
    (x3 : Vec Ideal S1x512x1024 .bf16) (x4 : Vec Ideal S1x512x3072 .bf16) (x5 : Vec Ideal S1x256x2048 .bf16)
    (x6 : Vec Ideal S1x3072 .f32) (x7 : Vec Ideal S1024x1024 .bf16) (x8 : Vec Ideal S2048x1024 .bf16)
    (x9 : Vec Ideal S1024x1024 .bf16) (x10 : Vec Ideal S1024x1024 .bf16) (r : Fin 512) (j : Fin 1024) : EReal :=
  x0 (ix3 0 r j) + ∑ x : Fin 1024,
    (Ideal.div 1 (1 + Ideal.exp (0 - (x4 (ix3 0 r ⟨x.val, by omega⟩) + x6 (ix2 0 ⟨x.val, by omega⟩))))
          * (∑ k : Fin 1024, x1 (ix3 0 r k) * x7 (ix2 k x))
        + Ideal.div 1 (1 + Ideal.exp (0 - (x4 (ix3 0 r ⟨1024 + x.val, by omega⟩) + x6 (ix2 0 ⟨1024 + x.val, by omega⟩))))
          * (∑ k : Fin 2048, x2 (ix3 0 r k) * x8 (ix2 k x))
        + Ideal.div 1 (1 + Ideal.exp (0 - (x4 (ix3 0 r ⟨2048 + x.val, by omega⟩) + x6 (ix2 0 ⟨2048 + x.val, by omega⟩))))
          * (∑ k : Fin 1024, memAt x3 x5 r k * x9 (ix2 k x)))
      * x10 (ix2 x j)

theorem pay10_apply (x4 : Vec Ideal S1x512x3072 .bf16) (x6 : Vec Ideal S1x3072 .f32) (r : Fin 512) (j : Fin 3072) :
    k0_pay10 (F := Ideal) x4 x6 (ix2 r j) = 1 + Ideal.exp (0 - (x4 (ix3 0 r j) + x6 (ix2 0 j))) := by
  pointwise [k0_pay10]

theorem pay1_apply (y : FVec Ideal S512x1024 .bf16) (z : FVec Ideal S512x3072 .f32) (x1 : Vec Ideal S1x512x1024 .bf16)
    (x7 : Vec Ideal S1024x1024 .bf16) (x2 : Vec Ideal S1x512x2048 .bf16) (x8 : Vec Ideal S2048x1024 .bf16)
    (x9 : Vec Ideal S1024x1024 .bf16) (x0 : Vec Ideal S1x512x1024 .f32) (x10 : Vec Ideal S1024x1024 .bf16)
    (r : Fin 512) (j : Fin 1024) :
    k0_pay1 (F := Ideal) y z x1 x7 x2 x8 x9 x0 x10 (ix3 0 r j) = x0 (ix3 0 r j) + ∑ x : Fin 1024,
      (Ideal.div 1 (z (ix2 r ⟨x.val, by omega⟩)) * (∑ k : Fin 1024, x1 (ix3 0 r k) * x7 (ix2 k x))
          + Ideal.div 1 (z (ix2 r ⟨1024 + x.val, by omega⟩)) * (∑ k : Fin 2048, x2 (ix3 0 r k) * x8 (ix2 k x))
          + Ideal.div 1 (z (ix2 r ⟨2048 + x.val, by omega⟩)) * (∑ k : Fin 1024, y (ix2 r k) * x9 (ix2 k x)))
        * x10 (ix2 x j) := by
  pointwise [k0_pay1]

theorem out_block (x0 : Vec Ideal S1x512x1024 .f32) (x1 : Vec Ideal S1x512x1024 .bf16) (x2 : Vec Ideal S1x512x2048 .bf16)
    (x4 : Vec Ideal S1x512x3072 .bf16)
    (x6 : Vec Ideal S1x3072 .f32) (x7 : Vec Ideal S1024x1024 .bf16) (x8 : Vec Ideal S2048x1024 .bf16)
    (x9 : Vec Ideal S1024x1024 .bf16) (x10 : Vec Ideal S1024x1024 .bf16) (r : Fin 512) (j : Fin 1024) :
    out0_11 (F := Ideal) x0 x1 x2 x3 x4 x5 x6 x7 x8 x9 x10 (ix3 0 r j) = rowAt x0 x1 x2 x3 x4 x5 x6 x7 x8 x9 x10 r j := by
  unfold out0_11
  have hz3 : (![0, 0, 0] : Fin 3 → Nat) = fun _ => 0 := by decide
  have hz2 : (![0, 0] : Fin 2 → Nat) = fun _ => 0 := by decide
  rw [View.canon_unit_zero hz3]
  simp only [View.ld_unit_zero (S := S1x512x1024) hz3, View.ld_unit_zero (S := S1x512x2048) hz3,
    View.ld_unit_zero (S := S1x512x3072) hz3, View.ld_unit_zero (S := S1x256x2048) hz3, View.ld_unit_zero (S := S1x3072) hz2,
    View.ld_unit_zero (S := S1024x1024) hz2, View.ld_unit_zero (S := S2048x1024) hz2]
  rw [pay1_apply]
  simp only [pay10_apply, pay9_apply]
  rfl

end Cert.MergeIdeal.Hand
end
-- ==== Proof.MergeRefQ.lean ====
module

public import proofs.«01_k».proof.Defs
public import proofs.«01_k».proof.Proof.Gen.MergeRefIdeal.Read
public import Idealize.ShloMosaic.Lib.Pointwise

@[expose] public section
noncomputable section
open Idealize.ShloMosaic Idealize.ShloMosaic.TcCoe Idealize.SL.Sem
namespace Cert.MergeRefIdeal.Hand
open Cert.MergeRefIdeal Cert.MergeRefIdeal.Gen Cert.MergeRefIdeal.Read Idealize.ShloMosaic.Pointwise

variable (x3 : (⟨S2x8192x12288, .bf16⟩ : BufTy).Contents (Elt Ideal)) (x4 : (⟨S2x256x2048, .bf16⟩ : BufTy).Contents (Elt Ideal))

theorem q_apply (b : Fin 2) (t : Fin 8192) (h : Fin 4) (d : Fin 256) :
    val_main_v4 (F := Ideal) x3 (ix4 b t h d) = x3 (ix3 b t ⟨11264 + (h.val * 256 + d.val), by omega⟩) := by
  rw [val_main_v4_apply, val_main_v3_apply, val_main_v0_apply]
  refine congrArg x3 (funext fun a => ?_)
  fin_cases a <;> refine Fin.ext ?_ <;> simp <;> omega

theorem k_apply (b : Fin 2) (m : Fin 256) (h : Fin 4) (d : Fin 256) :
    val_main_v6 (F := Ideal) x4 (ix4 b m h d) = x4 (ix3 b m ⟨h.val * 256 + d.val, by omega⟩) := by
  rw [val_main_v6_apply, val_main_v5_apply, val_main_v1_apply]
  refine congrArg x4 (funext fun a => ?_)
  fin_cases a <;> refine Fin.ext ?_ <;> simp <;> omega

theorem v_apply (b : Fin 2) (m : Fin 256) (h : Fin 4) (d : Fin 256) :
    val_main_v8 (F := Ideal) x4 (ix4 b m h d) = x4 (ix3 b m ⟨1024 + (h.val * 256 + d.val), by omega⟩) := by
  rw [val_main_v8_apply, val_main_v7_apply, val_main_v1_apply]
  refine congrArg x4 (funext fun a => ?_)
  fin_cases a <;> refine Fin.ext ?_ <;> simp <;> omega

theorem s_apply (b : Fin 2) (h : Fin 4) (t : Fin 8192) (m : Fin 256) :
    val_main_v11 (F := Ideal) x3 x4 (ix4 b h t m)
      = ∑ d : Fin 256, val_main_v4 (F := Ideal) x3 (ix4 b t h d) * Ideal.ofBits .f32 0x3D800000#32 * val_main_v6 (F := Ideal) x4 (ix4 b m h d) := by
  rw [val_main_v11_apply]
  refine Finset.sum_congr rfl fun d _ => ?_
  rw [val_main_v10_apply, val_main_v9_apply, val_main_cst_apply]
  have e1 : lidx_main_v11 (ix4 b h t m) d = ix4 b t h d := funext fun a => by fin_cases a <;> rfl
  have e2 : ridx_main_v11 (ix4 b h t m) d = ix4 b m h d := funext fun a => by fin_cases a <;> rfl
  rw [e1, e2]
  rfl

theorem max_apply (b : Fin 2) (h : Fin 4) (t : Fin 8192) :
    val_main_v12 (F := Ideal) x3 x4 (ix3 b h t)
      = Finset.univ.fold max (Ideal.ofBits .f32 0xFF800000#32) (fun m : Fin 256 => val_main_v11 (F := Ideal) x3 x4 (ix4 b h t m)) := by
  unfold val_main_v12
  generalize val_main_v11 (F := Ideal) x3 x4 = y
  pointwise [val_main_cst_0]

theorem sub_apply (b : Fin 2) (h : Fin 4) (t : Fin 8192) (m : Fin 256) :
    val_main_v18 (F := Ideal) x3 x4 (ix4 b h t m)
      = Ideal.exp (val_main_v11 (F := Ideal) x3 x4 (ix4 b h t m)
          - max (Ideal.ofBits .f32 0xFF800000#32) (val_main_v12 (F := Ideal) x3 x4 (ix3 b h t))) := by
  rw [val_main_v18_apply, val_main_v17_apply, val_main_v16_apply, val_main_v15_apply, val_main_v14_apply, val_main_v13_apply,
    val_main_cst_1_apply]
  have e : idx_main_v15 (idx_main_v16 (ix4 b h t m)) = ix3 b h t := funext fun a => by fin_cases a <;> rfl
  rw [e]
  generalize val_main_v11 (F := Ideal) x3 x4 = y
  generalize val_main_v12 (F := Ideal) x3 x4 = z
  rfl

theorem p_apply (b : Fin 2) (h : Fin 4) (t : Fin 8192) (m : Fin 256) :
    val_main_v22 (F := Ideal) x3 x4 (ix4 b h t m)
      = Ideal.div (val_main_v18 (F := Ideal) x3 x4 (ix4 b h t m))
          (0 + ∑ m : Fin 256, val_main_v18 (F := Ideal) x3 x4 (ix4 b h t m)) := by
  unfold val_main_v22 val_main_v21 val_main_v20 val_main_v19
  generalize val_main_v18 (F := Ideal) x3 x4 = y
  pointwise [val_main_cst_2]

theorem o_apply (b : Fin 2) (t : Fin 8192) (h : Fin 4) (d : Fin 256) :
    val_main_v25 (F := Ideal) x3 x4 (ix3 b t ⟨h.val * 256 + d.val, by omega⟩)
      = ∑ m : Fin 256, val_main_v8 (F := Ideal) x4 (ix4 b m h d) * val_main_v22 (F := Ideal) x3 x4 (ix4 b h t m) := by
  rw [val_main_v25_apply, val_main_v24_apply, val_main_v23_apply]
  refine Finset.sum_congr rfl fun m _ => ?_
  congr 2
  all_goals
    refine funext fun a => ?_
    fin_cases a <;> refine Fin.ext ?_ <;> simp <;> omega

variable (x0 : (⟨S2x8192x1024, .f32⟩ : BufTy).Contents (Elt Ideal)) (x1 : (⟨S2x8192x1024, .bf16⟩ : BufTy).Contents (Elt Ideal))
  (x2 : (⟨S2x8192x2048, .bf16⟩ : BufTy).Contents (Elt Ideal)) (x5 : (⟨S1x3072, .f32⟩ : BufTy).Contents (Elt Ideal))
  (x6 : (⟨S1024x1024, .bf16⟩ : BufTy).Contents (Elt Ideal)) (x7 : (⟨S2048x1024, .bf16⟩ : BufTy).Contents (Elt Ideal))
  (x8 x9 : (⟨S1024x1024, .bf16⟩ : BufTy).Contents (Elt Ideal))

theorem g_apply (b : Fin 2) (t : Fin 8192) (g : Fin 3) (j : Fin 1024) :
    val_main_v36 (F := Ideal) x3 x5 (ix4 b t g j)
      = Ideal.div (Ideal.ofBits .f32 0x3F800000#32) (Ideal.ofBits .f32 0x3F800000#32
          + Ideal.exp (-(val_main_v29 (F := Ideal) x3 x5 (ix3 b t ⟨g.val * 1024 + j.val, by omega⟩)))) := by
  rw [val_main_v36_apply, val_main_v35_apply, val_main_v34_apply, val_main_v33_apply, val_main_v32_apply, val_main_v31_apply,
    val_main_v30_apply]
  have e : idx_main_v30 (ix4 b t g j) = ix3 b t ⟨g.val * 1024 + j.val, by omega⟩ := by
    refine funext fun a => ?_
    fin_cases a <;> refine Fin.ext ?_ <;> simp <;> omega
  rw [e]
  rfl

theorem gl_apply (b : Fin 2) (t : Fin 8192) (j : Fin 3072) :
    val_main_v29 (F := Ideal) x3 x5 (ix3 b t j) = x3 (ix3 b t ⟨3072 + j.val, by omega⟩) + x5 (ix2 0 j) := by
  rw [val_main_v29_apply, val_main_v2_apply, val_main_v0_apply, val_main_v28_apply, val_main_v27_apply, val_main_v26_apply]
  have e1 : idx_main_v2 (ix3 b t j) = ix3 b t ⟨3072 + j.val, by omega⟩ := by
    refine funext fun a => ?_
    fin_cases a <;> rfl
  have e2 : idx_main_v26 (idx_main_v27 (idx_main_v28 (ix3 b t j))) = ix2 0 j := by
    refine funext fun a => ?_
    fin_cases a <;> refine Fin.ext ?_ <;> simp <;> omega
  rw [e1, e2]
  rfl

theorem g0_apply (b : Fin 2) (t : Fin 8192) (j : Fin 1024) :
    val_main_v38 (F := Ideal) x3 x5 (ix3 b t j) = val_main_v36 (F := Ideal) x3 x5 (ix4 b t 0 j) := by
  rw [val_main_v38_apply, val_main_v37_apply]
  congr 1
  refine funext fun a => ?_
  fin_cases a <;> refine Fin.ext ?_ <;> simp <;> omega

theorem g1_apply (b : Fin 2) (t : Fin 8192) (j : Fin 1024) :
    val_main_v44 (F := Ideal) x3 x5 (ix3 b t j) = val_main_v36 (F := Ideal) x3 x5 (ix4 b t 1 j) := by
  rw [val_main_v44_apply, val_main_v43_apply]
  congr 1
  refine funext fun a => ?_
  fin_cases a <;> refine Fin.ext ?_ <;> simp <;> omega

theorem g2_apply (b : Fin 2) (t : Fin 8192) (j : Fin 1024) :
    val_main_v51 (F := Ideal) x3 x5 (ix3 b t j) = val_main_v36 (F := Ideal) x3 x5 (ix4 b t 2 j) := by
  rw [val_main_v51_apply, val_main_v50_apply]
  congr 1
  refine funext fun a => ?_
  fin_cases a <;> refine Fin.ext ?_ <;> simp <;> omega

theorem m_apply (b : Fin 2) (t : Fin 8192) (j : Fin 1024) :
    val_main_v55 (F := Ideal) x1 x2 x3 x4 x5 x6 x7 x8 (ix3 b t j)
      = val_main_v36 (F := Ideal) x3 x5 (ix4 b t 0 j) * (∑ k : Fin 1024, x1 (ix3 b t k) * x6 (ix2 k j))
        + val_main_v36 (F := Ideal) x3 x5 (ix4 b t 1 j) * (∑ k : Fin 2048, x2 (ix3 b t k) * x7 (ix2 k j))
        + val_main_v36 (F := Ideal) x3 x5 (ix4 b t 2 j)
          * (∑ k : Fin 1024, val_main_v25 (F := Ideal) x3 x4 (ix3 b t k) * x8 (ix2 k j)) := by
  rw [← g0_apply, ← g1_apply, ← g2_apply]
  unfold val_main_v55 val_main_v54 val_main_v53 val_main_v52 val_main_v49 val_main_v48 val_main_v47 val_main_v46 val_main_v45
    val_main_v42 val_main_v41 val_main_v40 val_main_v39
  generalize val_main_v25 (F := Ideal) x3 x4 = y
  generalize val_main_v38 (F := Ideal) x3 x5 = z0
  generalize val_main_v44 (F := Ideal) x3 x5 = z1
  generalize val_main_v51 (F := Ideal) x3 x5 = z2
  pointwise []

theorem out_apply (b : Fin 2) (t : Fin 8192) (j : Fin 1024) :
    val_main_v58 (F := Ideal) x0 x1 x2 x3 x4 x5 x6 x7 x8 x9 (ix3 b t j)
      = x0 (ix3 b t j) + ∑ k : Fin 1024, val_main_v55 (F := Ideal) x1 x2 x3 x4 x5 x6 x7 x8 (ix3 b t k) * x9 (ix2 k j) := by
  unfold val_main_v58 val_main_v57 val_main_v56
  generalize val_main_v55 (F := Ideal) x1 x2 x3 x4 x5 x6 x7 x8 = y
  pointwise []

end Cert.MergeRefIdeal.Hand
end
-- ==== Proof.MergeVal.lean ====
/-
  The merge kernel's result array is the reference's result: block by block of 512 rows (`final`).
-/
module

public import proofs.«01_k».proof.Defs
public import proofs.«01_k».proof.Proof.Softmax
public import proofs.«01_k».proof.Proof.MergeKer
public import proofs.«01_k».proof.Proof.MergeRefQ
public import Idealize.ShloMosaic.Lib.Pointwise
public import Idealize.ShloMosaic.Lib.Pipeline.ValueKit

@[expose] public section
noncomputable section
open Idealize.ShloMosaic Idealize.ShloMosaic.TcCoe Idealize.SL.Sem
namespace Cert.MergeIdeal.Hand
open Cert.MergeIdeal Cert.MergeIdeal.Gen Idealize.ShloMosaic.Pointwise
open Cert.MergeIdeal.Value
open Idealize.ShloMosaic.Pipeline (Dat Cfg Window)

set_option maxRecDepth 16384
set_option maxHeartbeats 2000000

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 11]
    ∧ win0_4.index t = ![t.val / 16, t.val % 16, 1] ∧ win0_5.index t = ![t.val / 16, 0, 0]
    ∧ win0_6.index t = ![0, 0] ∧ win0_7.index t = ![0, 0] ∧ win0_8.index t = ![0, 0] ∧ win0_9.index t = ![0, 0]
    ∧ win0_10.index t = ![0, 0] ∧ win0_11.index t = ![t.val / 16, t.val % 16, 0] :=
  (by decide +kernel : ∀ t : Fin grid0.N, _)

variable (m : (ℓ : Loc nD τ sig) → Buf (Elt Ideal) ℓ)

/-- The batch and the row of row `r` of point `t`'s block. -/
abbrev bAt (t : Fin cfg0.N) : Fin 2 := ⟨t.val / 16, by have := t.isLt; have : cfg0.N = 32 := N_0; omega⟩
abbrev rAt (t : Fin cfg0.N) (r : Fin 512) : Fin 8192 := ⟨t.val % 16 * 512 + r.val, by omega⟩

theorem blk0 (c : Dev nD) (t : Fin cfg0.N) (r : Fin 512) (j : Fin 1024) :
    iblk m c 0 t (ix3 0 r j) = m ((c : Thread nD τ).loc main_arg0) (ix3 (bAt t) (rAt t r) j) := by
  blk_ext! [iblk, V, idx t]
theorem blk1 (c : Dev nD) (t : Fin cfg0.N) (r : Fin 512) (j : Fin 1024) :
    iblk m c 1 t (ix3 0 r j) = m ((c : Thread nD τ).loc main_arg1) (ix3 (bAt t) (rAt t r) j) := by
  blk_ext! [iblk, V, idx t]
theorem blk2 (c : Dev nD) (t : Fin cfg0.N) (r : Fin 512) (j : Fin 2048) :
    iblk m c 2 t (ix3 0 r j) = m ((c : Thread nD τ).loc main_arg2) (ix3 (bAt t) (rAt t r) j) := by
  blk_ext! [iblk, V, idx t]
theorem blk3 (c : Dev nD) (t : Fin cfg0.N) (r : Fin 512) (j : Fin 1024) :
    iblk m c 3 t (ix3 0 r j) = m ((c : Thread nD τ).loc main_arg3) (ix3 (bAt t) (rAt t r) ⟨11264 + j.val, by omega⟩) := by
  blk_ext! [iblk, V, idx t]
theorem blk4 (c : Dev nD) (t : Fin cfg0.N) (r : Fin 512) (j : Fin 3072) :
    iblk m c 4 t (ix3 0 r j) = m ((c : Thread nD τ).loc main_arg3) (ix3 (bAt t) (rAt t r) ⟨3072 + j.val, by omega⟩) := by
  blk_ext! [iblk, V, idx t]
theorem blk5 (c : Dev nD) (t : Fin cfg0.N) (r : Fin 256) (j : Fin 2048) :
    iblk m c 5 t (ix3 0 r j) = m ((c : Thread nD τ).loc main_arg4) (ix3 (bAt t) r j) := by
  blk_ext! [iblk, V, idx t]
theorem blk6 (c : Dev nD) (t : Fin cfg0.N) (j : Fin 3072) :
    iblk m c 6 t (ix2 0 j) = m ((c : Thread nD τ).loc main_arg5) (ix2 0 j) := by
  blk_ext! [iblk, V, idx t]
theorem blk7 (c : Dev nD) (t : Fin cfg0.N) (i : Fin 1024) (j : Fin 1024) :
    iblk m c 7 t (ix2 i j) = m ((c : Thread nD τ).loc main_arg6) (ix2 i j) := by
  blk_ext! [iblk, V, idx t]
theorem blk8 (c : Dev nD) (t : Fin cfg0.N) (i : Fin 2048) (j : Fin 1024) :
    iblk m c 8 t (ix2 i j) = m ((c : Thread nD τ).loc main_arg7) (ix2 i j) := by
  blk_ext! [iblk, V, idx t]
theorem blk9 (c : Dev nD) (t : Fin cfg0.N) (i : Fin 1024) (j : Fin 1024) :
    iblk m c 9 t (ix2 i j) = m ((c : Thread nD τ).loc main_arg8) (ix2 i j) := by
  blk_ext! [iblk, V, idx t]
theorem blk10 (c : Dev nD) (t : Fin cfg0.N) (i : Fin 1024) (j : Fin 1024) :
    iblk m c 10 t (ix2 i j) = m ((c : Thread nD τ).loc main_arg9) (ix2 i j) := by
  blk_ext! [iblk, V, idx t]

/-- The result the reference computes from the launched arrays. -/
abbrev G (c : Dev nD) : Buf (Elt Ideal) ((c : Thread nD τ).loc main_v0) :=
  Cert.MergeRefIdeal.Read.val_main_v58 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The queries and the keys are finite. -/
def Fin' (c : Dev nD) : Prop :=
  (∀ (b : Fin 2) (t : Fin 8192) (j : Fin 1024), ∃ r : ℝ,
      m ((c : Thread nD τ).loc main_arg3) (ix3 b t ⟨11264 + j.val, by omega⟩) = (r : EReal))
  ∧ ∀ (b : Fin 2) (t : Fin 256) (j : Fin 1024), ∃ r : ℝ,
      m ((c : Thread nD τ).loc main_arg4) (ix3 b t ⟨j.val, by omega⟩) = (r : EReal)

theorem mem_eq (c : Dev nD) (hf : Fin' m c) (t : Fin cfg0.N) (r : Fin 512) (j : Fin 1024) :
    memAt (iblk m c 3 t) (iblk m c 5 t) r j
      = Cert.MergeRefIdeal.Read.val_main_v25 (F := Ideal) (m ((c : Thread nD τ).loc main_arg3)) (m ((c : Thread nD τ).loc main_arg4))
          (ix3 (bAt t) (rAt t r) j) := by
  obtain ⟨h, d, rfl⟩ : ∃ (h : Fin 4) (d : Fin 256), j = ⟨h.val * 256 + d.val, by omega⟩ :=
    ⟨⟨j.val / 256, by omega⟩, ⟨j.val % 256, by omega⟩, Fin.ext (by simp; omega)⟩
  rw [memAt_of _ _ r _ h d rfl]
  rw [Cert.MergeRefIdeal.Hand.o_apply]
  unfold headAt head
  simp only [blk3, blk5, Cert.MergeRefIdeal.Hand.p_apply, Cert.MergeRefIdeal.Hand.sub_apply, Cert.MergeRefIdeal.Hand.max_apply,
    Cert.MergeRefIdeal.Hand.s_apply, Cert.MergeRefIdeal.Hand.q_apply, Cert.MergeRefIdeal.Hand.k_apply,
    Cert.MergeRefIdeal.Hand.v_apply, Cert.Hand.ofBits_sixteenth, Cert.Hand.ofBits_neg_inf]
  rw [Cert.Hand.attn_eq (n := 256) (p := 256) _ _ _ (fun d => hf.1 _ _ ⟨h.val * 256 + d.val, by omega⟩) (fun m d => hf.2 _ _ ⟨h.val * 256 + d.val, by omega⟩)]
  simp only [Nat.add_assoc]

theorem row_eq (c : Dev nD) (hf : Fin' m c) (t : Fin cfg0.N) (r : Fin 512) (j : Fin 1024) :
    rowAt (iblk m c 0 t) (iblk m c 1 t) (iblk m c 2 t) (iblk m c 3 t) (iblk m c 4 t) (iblk m c 5 t) (iblk m c 6 t) (iblk m c 7 t)
      (iblk m c 8 t) (iblk m c 9 t) (iblk m c 10 t) r j = G m c (ix3 (bAt t) (rAt t r) j) := by
  unfold rowAt G
  rw [Cert.MergeRefIdeal.Hand.out_apply]
  simp only [mem_eq m c hf, blk0, blk1, blk2, blk4, blk6, blk7, blk8, blk9, blk10, Cert.MergeRefIdeal.Hand.m_apply,
    Cert.MergeRefIdeal.Hand.g_apply, Cert.MergeRefIdeal.Hand.gl_apply, Ideal.ofBits_one_f32, zero_sub]
  rfl

theorem flushed_eq (c : Dev nD) (hf : Fin' m c) (t : Fin cfg0.N) :
    (dats m 0 c).flushed 11 t = ((cfg0.win 11).blk t).view.read (Elt Ideal) (G m c) := by
  rw [flushed11]
  funext y
  obtain ⟨z, r, j, rfl⟩ : ∃ (z : Fin 1) (r : Fin 512) (j : Fin 1024), y = ix3 z r j := ⟨_, _, _, ValueIdx.eq_ix3 y⟩
  obtain rfl : z = 0 := Subsingleton.elim _ _
  refine (out_block _ _ _ _ _ _ _ _ _ _ _ r j).trans ((row_eq m c hf t r j).trans ?_)
  blk_ext! [idx t]

theorem cover (i : S2x8192x1024.Idx) :
    ∃ t : Fin cfg0.N, (cfg0.win 11).flush t = true ∧ i ∈ ((cfg0.win 11).blk t).view.set := by
  have h0 : (i 0 : Nat) < 2 := (i 0).isLt
  have h1 : (i 1 : Nat) < 8192 := (i 1).isLt
  have h2 : (i 2 : Nat) < 1024 := (i 2).isLt
  have hN : cfg0.N = 32 := N_0
  refine ⟨⟨(i 0 : Nat) * 16 + (i 1 : Nat) / 512, by omega⟩, flush0_11 _, ?_⟩
  mem_blk [idx]
  simp
  omega

theorem final (c : Dev nD) (hf : Fin' m c) : (dats m 0 c).arrAt 11 cfg0.N = G m c :=
  (dats m 0 c).arrAt_eq_of_cover 11 (G m c) (fun t _ => flushed_eq m c hf t) cover

end Cert.MergeIdeal.Hand
end
-- ==== Proof.MergeClaims.lean ====
/-
  The claims about the gated merge with its attention over the memory.
-/
module

public import proofs.«01_k».proof.Defs
public import proofs.«01_k».proof.Proof.MergeVal
public import proofs.«01_k».proof.Proof.Gen.Merge.Frame
public import proofs.«01_k».proof.Proof.Gen.MergeIdeal.Value
public import proofs.«01_k».proof.Proof.Gen.MergeRefIdeal.Run
public import Idealize.ShloMosaic.Lib.Quiescent

@[expose] public section
noncomputable section
open Idealize.ShloMosaic Idealize.ShloMosaic.TcCoe Idealize.SL.Sem
namespace Cert.Proof.MergeClaims
open Idealize.ShloMosaic.Pointwise

/-- An entry whose magnitude is below infinity is a real. -/
theorem real_of_abs_lt (x : EReal) (h : max x (-x) < ⊤) : ∃ r : ℝ, x = (r : EReal) := by
  induction x with
  | bot => simp at h
  | coe r => exact ⟨r, rfl⟩
  | top => simp at h

theorem ofBits_inf : Ideal.ofBits FTy.bf16 0x7F80#16 = (⊤ : EReal) := by
  simp [Ideal.ofBits, Ideal.ieee, -EReal.coe_mul]

theorem lt_of_cmp (x y : EReal) (h : Ideal.cmp .olt x y = 1#1) : x < y := by
  by_contra hn
  unfold Ideal.cmp at h
  simp [hn] at h

/-- The precondition, read: the queries and the keys are reals. -/
theorem pre_real (m : (ℓ : Loc Cert.MergeIdeal.nD Cert.MergeIdeal.τ Cert.MergeIdeal.sig) → Buf (Elt Ideal) ℓ)
    [Cert.Pre_finite_scores.Facts]
    (h : Cert.Pre_MergeIdeal_finite_scores m) (c : Dev Cert.MergeIdeal.nD) : Cert.MergeIdeal.Hand.Fin' m c := by
  obtain ⟨h1, h2⟩ := h c
  constructor
  · intro b t j
    have := congrFun h1 (ix3 b t j)
    revert this
    generalize m (((c : Thread Cert.MergeIdeal.nD Cert.MergeIdeal.τ)).loc Cert.MergeIdeal.main_arg3) = y
    intro this
    pointwise [Cert.Pre_finite_scores.fn] at this
    rw [ofBits_inf] at this
    exact real_of_abs_lt _ (lt_of_cmp _ _ this)
  · intro b t j
    have := congrFun h2 (ix3 b t j)
    revert this
    generalize m (((c : Thread Cert.MergeIdeal.nD Cert.MergeIdeal.τ)).loc Cert.MergeIdeal.main_arg4) = y
    intro this
    pointwise [Cert.Pre_finite_scores.fn] at this
    rw [ofBits_inf] at this
    exact real_of_abs_lt _ (lt_of_cmp _ _ this)

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

theorem preserves : Cert.preserves_Merge_MergeIdeal := trivial

theorem algebraic [Cert.Pre_finite_scores.Facts] : Cert.algebraic_MergeIdeal_MergeRefIdeal_pre_finite_scores := by
  intro m ρ m' ρ' hpre hagree
  refine ⟨fun c => Cert.MergeIdeal.Hand.G m c, ?_, ?_⟩
  · refine (θ_run Cert.MergeIdeal.defs _ _).mono (fun _ h c => ⟨(h c).1.trans ?_, (h c).2⟩)
      (Cert.MergeIdeal.Value.run_blocks (F := Ideal) m ρ)
    exact Cert.MergeIdeal.Hand.final m c (pre_real m hpre c)
  · refine (θ_run Cert.MergeRefIdeal.defs _ _).mono (fun _ h c => ⟨(h c).1.trans ?_, (h c).2⟩)
      (Cert.MergeRefIdeal.Value.run (F := Ideal) m' ρ')
    rw [Cert.MergeRefIdeal.Read.val_main_v58_eq]
    obtain ⟨e0, e1, e2, e3, e4, e5, e6, e7, e8, e9⟩ := hagree c

    show _ = Cert.MergeRefIdeal.Read.val_main_v58 (F := Ideal) _ _ _ _ _ _ _ _ _ _
    rw [e0, e1, e2, e3, e4, e5, e6, e7, e8, e9]

end Cert.Proof.MergeClaims
end
-- ==== Proof.FfnIdealRun.lean ====
/-
  One run of the feed-forward kernel's body: what it leaves in its output block and in the first rows of its scratch.
-/
module

public import proofs.«01_k».proof.Proof.Gen.FfnIdeal.Frame
public import proofs.«01_k».proof.Proof.Gen.FfnIdeal.Skeleton
public import Idealize.ShloMosaic.Lib.VecWindow
public import Idealize.ShloMosaic.Lib.Pointwise

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The scratch as rows -/

/-- The eight scratch rows that stand before a block's own rows. -/
def headOf (d : Vec F S528x5632 .f32) : Vec F S8x5632 .f32 := VecWindow.window d ![0, 0] S8x5632.size inb_S528x5632_S8x5632_0_0

/-- The last eight of a block's rows: what the next block finds before its own. -/
def tailOf (b : Vec F S512x5632 .f32) : Vec F S8x5632 .f32 := fun j =>
  b (ix2 ⟨504 + (j 0).val, by have := (j 0).isLt; show _ < 512; change _ < 8 at this; omega⟩ (j 1))

/-- 512 rows from row `o` on of the head `a` followed by the block's rows `b`. -/
def rows (o : Nat) (ho : o ≤ 8) (a : Vec F S8x5632 .f32) (b : Vec F S512x5632 .f32) : Vec F S512x5632 .f32 := fun j =>
  if h : o + (j 0).val < 8 then a (ix2 ⟨o + (j 0).val, h⟩ (j 1))
  else b (ix2 ⟨o + (j 0).val - 8, by have := (j 0).isLt; show _ < 512; change _ < 512 at this; omega⟩ (j 1))

theorem window_head (o : Nat) (ho : o ≤ 8) (inb : ∀ a, ![o, 0] a + S512x5632.size a ≤ S528x5632.size a)
    (x : Vec F S528x5632 .f32) (b : Vec F S512x5632 .f32) :
    VecWindow.window (VecWindow.put x ![8, 0] S512x5632.size b) ![o, 0] S512x5632.size inb = rows o ho (headOf x) b := by
  funext j
  have hj := (j 0).isLt
  change _ < 512 at hj
  have hk := (j 1).isLt
  change _ < 5632 at hk
  unfold VecWindow.window VecWindow.put rows headOf VecWindow.window
  by_cases h : o + (j 0).val < 8
  · rw [dif_pos h, dif_neg (fun hh => by have := (hh 0).1; change 8 ≤ o + 1 * (j 0).val at this; omega)]
    congr 1; funext a; fin_cases a <;> refine Fin.ext ?_
    · show o + 1 * (j 0).val = 0 + 1 * (o + (j 0).val); omega
    · show 0 + 1 * (j 1).val = 0 + 1 * (j 1).val; omega
  · rw [dif_neg h, dif_pos (fun a => by
      fin_cases a
      · show 8 ≤ o + 1 * (j 0).val ∧ o + 1 * (j 0).val < 8 + 512; omega
      · show 0 ≤ 0 + 1 * (j 1).val ∧ 0 + 1 * (j 1).val < 0 + 5632; omega)]
    congr 1; funext a; fin_cases a <;> refine Fin.ext ?_
    · show o + 1 * (j 0).val - 8 = o + (j 0).val - 8; omega
    · show 0 + 1 * (j 1).val - 0 = (j 1).val; omega

theorem window_tail (x : Vec F S528x5632 .f32) (b : Vec F S512x5632 .f32) :
    VecWindow.window (VecWindow.put x ![8, 0] S512x5632.size b) ![512, 0] S8x5632.size inb_S528x5632_S8x5632_512_0 = tailOf b := by
  funext j
  have hj := (j 0).isLt
  change _ < 8 at hj
  have hk := (j 1).isLt
  change _ < 5632 at hk
  unfold VecWindow.window VecWindow.put tailOf
  rw [dif_pos (fun a => by
    fin_cases a
    · show 8 ≤ 512 + 1 * (j 0).val ∧ 512 + 1 * (j 0).val < 8 + 512; omega
    · show 0 ≤ 0 + 1 * (j 1).val ∧ 0 + 1 * (j 1).val < 0 + 5632; omega)]
  congr 1; funext a; fin_cases a <;> refine Fin.ext ?_
  · show 512 + 1 * (j 0).val - 8 = 504 + (j 0).val; omega
  · show 0 + 1 * (j 1).val - 0 = (j 1).val; omega

theorem rows_eight (h : 8 ≤ 8) (a : Vec F S8x5632 .f32) (b : Vec F S512x5632 .f32) : rows 8 h a b = b := by
  funext j
  unfold rows
  rw [dif_neg (by omega)]
  congr 1; funext a; fin_cases a <;> refine Fin.ext ?_
  · show 8 + (j 0).val - 8 = (j 0).val; omega
  · rfl

theorem headOf_put (x : Vec F S528x5632 .f32) (a : Vec F S8x5632 .f32) : headOf (VecWindow.put x ![0, 0] S8x5632.size a) = a :=
  VecWindow.window_put_same x ![0, 0] S8x5632.size inb_S528x5632_S8x5632_0_0 a

/-! ## The run -/

/-- A block's rows of hidden activations before the convolution. -/
def up (x0 : Vec F S1x512x1024 .f32) (x1 : Vec F S1x1024 .f32) (x2 : Vec F S1024x5632 .bf16) : Vec F S512x5632 .f32 := k0_pay4 x0 x1 x2

/-- Tap `k` of the convolution. -/
def tap (k : Nat) (inb : ∀ a, ![k, 0] a + S1x5632.size a ≤ S3x5632.size a) (x3 : Vec F S3x5632 .f32) : Vec F S1x5632 .f32 :=
  VecWindow.window x3 ![k, 0] S1x5632.size inb

/-- The output block, from the operands' blocks, the eight rows before the block (`a`) and the block's rows (`b`). -/
def out (x0 : Vec F S1x512x1024 .f32) (x3 : Vec F S3x5632 .f32) (x4 : Vec F S1x5632 .f32) (x5 : Vec F S2816x1024 .bf16)
    (x6 : Vec F S1x1024 .f32) (a : Vec F S8x5632 .f32) (b : Vec F S512x5632 .f32) : Vec F S1x512x1024 .f32 :=
  k0_pay1 (k0_pay7 (k0_pay3 x0) (k0_pay5 x4 (rows 6 (by decide) a b) (tap 0 inb_S3x5632_S1x5632_0_0 x3)) (rows 7 (by decide) a b)
    (tap 1 inb_S3x5632_S1x5632_1_0 x3) (rows 8 (by decide) a b) (tap 2 inb_S3x5632_S1x5632_2_0 x3) x5 x6)

/-- The body's test for the first row block of a sequence. -/
abbrev First (i : grid0.Coords) : Prop :=
  (Scalar.cmpi .ne (Scalar.extui (Scalar.cmpi .eq (BitVec.ofNat 32 (i 1).val) 0#32)) 0#32) = 1#1

set_option maxHeartbeats 1000000 in
/-- At the first row block of a sequence the rows before the block are the zeros just stored. -/
theorem run_first (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S528x5632 .f32) (harg10 : arg10.IsWhole) (hc0 : First i)
    (x0 : Vec F S1x512x1024 .f32) (x1 : Vec F S1x1024 .f32) (x2 : Vec F S1024x5632 .bf16) (x3 : Vec F S3x5632 .f32)
    (x4 : Vec F S1x5632 .f32) (x5 : Vec F S2816x1024 .bf16) (x6 : Vec F S1x1024 .f32) (e : Vec F S528x5632 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare e
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out x0 x3 x4 x5 x6 (k0_pay2 (F := F)) (up x0 x1 x2))
            ∗ (∃ d, ⌜headOf d = k0_pay6 (tailOf (up x0 x1 x2))⌝ ∗ owns (c : Thread nD τ) arg10 fullShare d)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  have hx0 := (View.readAt_full (Val := Elt F) arg2.view (harg2.unread x0) inb_S1x512x1024_S1x512x1024_0_0_0).trans hf0
  have hx1 := (View.readAt_full (Val := Elt F) arg3.view (harg3.unread x1) inb_S1x1024_S1x1024_0_0).trans hf1
  have hx2 := (View.readAt_full (Val := Elt F) arg4.view (harg4.unread x2) inb_S1024x5632_S1024x5632_0_0).trans hf2
  have hx4 := (View.readAt_full (Val := Elt F) arg6.view (harg6.unread x4) inb_S1x5632_S1x5632_0_0).trans hf4
  have hx5 := (View.readAt_full (Val := Elt F) arg7.view (harg7.unread x5) inb_S2816x1024_S2816x1024_0_0).trans hf5
  have hx6 := (View.readAt_full (Val := Elt F) arg8.view (harg8.unread x6) inb_S1x1024_S1x1024_0_0).trans hf6
  have t0 : View.readAt (Elt F) arg5.view (Rect.unit (s := S3x5632) ![0, 0] S1x5632.size inb_S3x5632_S1x5632_0_0).toLoadRect (harg5.unread x3) = tap 0 inb_S3x5632_S1x5632_0_0 x3 := by
    rw [View.readAt_unit arg5.view _ _ rfl inb_S3x5632_S1x5632_0_0, hf3]; rfl
  have t1 : View.readAt (Elt F) arg5.view (Rect.unit (s := S3x5632) ![1, 0] S1x5632.size inb_S3x5632_S1x5632_1_0).toLoadRect (harg5.unread x3) = tap 1 inb_S3x5632_S1x5632_1_0 x3 := by
    rw [View.readAt_unit arg5.view _ _ rfl inb_S3x5632_S1x5632_1_0, hf3]; rfl
  have t2 : View.readAt (Elt F) arg5.view (Rect.unit (s := S3x5632) ![2, 0] S1x5632.size inb_S3x5632_S1x5632_2_0).toLoadRect (harg5.unread x3) = tap 2 inb_S3x5632_S1x5632_2_0 x3 := by
    rw [View.readAt_unit arg5.view _ _ rfl inb_S3x5632_S1x5632_2_0, hf3]; rfl
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full (s := S1x512x1024) arg9.view f7 _ _ _).trans ?_
    unfold out
    delta run_first.sl.r_1 run_first.sl.r run_first.sl.v25 run_first.sl.v31 run_first.sl.v36 run_first.sl.HS0_2
    simp only [hx0, hx1, hx2, hx4, hx5, hx6, t0, t1, t2, View.readCov, View.readAt_unit (Val := Elt F) arg10.view _ inb_S528x5632_S512x5632_6_0 rfl inb_S528x5632_S512x5632_6_0,
      View.readAt_unit (Val := Elt F) arg10.view _ inb_S528x5632_S512x5632_7_0 rfl inb_S528x5632_S512x5632_7_0,
      View.readAt_unit (Val := Elt F) arg10.view _ inb_S528x5632_S512x5632_8_0 rfl inb_S528x5632_S512x5632_8_0]
    rw [View.read_writes_cons_put arg10.view _ inb_S528x5632_S512x5632_8_0 _ _ rfl, View.read_writes_cons_put arg10.view _ inb_S528x5632_S8x5632_0_0 _ _ rfl]
    rw [window_head 6 (by decide), window_head 7 (by decide), window_head 8 (by decide), headOf_put]
    simp only [rows_eight]
    rfl
  iexists _; isplitr; swap
  · iexists _; isplitr; swap; · iexact HS0
    ipureintro; rfl
  ipureintro
  delta run_first.sl.v41 run_first.sl.HS0_2
  simp only [hx0, hx1, hx2, View.readCov, View.readAt_unit (Val := Elt F) arg10.view _ inb_S528x5632_S8x5632_512_0 rfl inb_S528x5632_S8x5632_512_0]
  rw [View.read_writes_cons_put arg10.view _ inb_S528x5632_S8x5632_0_0 _ _ rfl, headOf_put,
    View.read_writes_cons_put arg10.view _ inb_S528x5632_S512x5632_8_0 _ _ rfl, window_tail]
  rfl

set_option maxHeartbeats 1000000 in
/-- At a later row block the rows before the block are what the scratch held. -/
theorem run_next (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S528x5632 .f32) (harg10 : arg10.IsWhole) (hc0 : ¬ First i)
    (x0 : Vec F S1x512x1024 .f32) (x1 : Vec F S1x1024 .f32) (x2 : Vec F S1024x5632 .bf16) (x3 : Vec F S3x5632 .f32)
    (x4 : Vec F S1x5632 .f32) (x5 : Vec F S2816x1024 .bf16) (x6 : Vec F S1x1024 .f32) (e : Vec F S528x5632 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare e
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out x0 x3 x4 x5 x6 (headOf e) (up x0 x1 x2))
            ∗ (∃ d, ⌜headOf d = k0_pay6 (tailOf (up x0 x1 x2))⌝ ∗ owns (c : Thread nD τ) arg10 fullShare d)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs
  have hx0 := (View.readAt_full (Val := Elt F) arg2.view (harg2.unread x0) inb_S1x512x1024_S1x512x1024_0_0_0).trans hf0
  have hx1 := (View.readAt_full (Val := Elt F) arg3.view (harg3.unread x1) inb_S1x1024_S1x1024_0_0).trans hf1
  have hx2 := (View.readAt_full (Val := Elt F) arg4.view (harg4.unread x2) inb_S1024x5632_S1024x5632_0_0).trans hf2
  have hx4 := (View.readAt_full (Val := Elt F) arg6.view (harg6.unread x4) inb_S1x5632_S1x5632_0_0).trans hf4
  have hx5 := (View.readAt_full (Val := Elt F) arg7.view (harg7.unread x5) inb_S2816x1024_S2816x1024_0_0).trans hf5
  have hx6 := (View.readAt_full (Val := Elt F) arg8.view (harg8.unread x6) inb_S1x1024_S1x1024_0_0).trans hf6
  have t0 : View.readAt (Elt F) arg5.view (Rect.unit (s := S3x5632) ![0, 0] S1x5632.size inb_S3x5632_S1x5632_0_0).toLoadRect (harg5.unread x3) = tap 0 inb_S3x5632_S1x5632_0_0 x3 := by
    rw [View.readAt_unit arg5.view _ _ rfl inb_S3x5632_S1x5632_0_0, hf3]; rfl
  have t1 : View.readAt (Elt F) arg5.view (Rect.unit (s := S3x5632) ![1, 0] S1x5632.size inb_S3x5632_S1x5632_1_0).toLoadRect (harg5.unread x3) = tap 1 inb_S3x5632_S1x5632_1_0 x3 := by
    rw [View.readAt_unit arg5.view _ _ rfl inb_S3x5632_S1x5632_1_0, hf3]; rfl
  have t2 : View.readAt (Elt F) arg5.view (Rect.unit (s := S3x5632) ![2, 0] S1x5632.size inb_S3x5632_S1x5632_2_0).toLoadRect (harg5.unread x3) = tap 2 inb_S3x5632_S1x5632_2_0 x3 := by
    rw [View.readAt_unit arg5.view _ _ rfl inb_S3x5632_S1x5632_2_0, hf3]; rfl
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full (s := S1x512x1024) arg9.view f7 _ _ _).trans ?_
    unfold out
    delta run_next.sl.r_2 run_next.sl.r_1 run_next.sl.r run_next.sl.v36 run_next.sl.HS0_1
    simp only [hx0, hx1, hx2, hx4, hx5, hx6, t0, t1, t2, View.readCov, View.readAt_unit (Val := Elt F) arg10.view _ inb_S528x5632_S512x5632_6_0 rfl inb_S528x5632_S512x5632_6_0,
      View.readAt_unit (Val := Elt F) arg10.view _ inb_S528x5632_S512x5632_7_0 rfl inb_S528x5632_S512x5632_7_0,
      View.readAt_unit (Val := Elt F) arg10.view _ inb_S528x5632_S512x5632_8_0 rfl inb_S528x5632_S512x5632_8_0]
    rw [View.read_writes_cons_put arg10.view _ inb_S528x5632_S512x5632_8_0 _ _ rfl, show arg10.view.writes (Elt F) (harg10.unread e) [] = harg10.unread e from rfl, hfs]
    rw [window_head 6 (by decide), window_head 7 (by decide), View.read_writes_cons_put arg10.view _ inb_S528x5632_S512x5632_8_0 _ _ rfl, window_head 8 (by decide)]
    simp only [rows_eight]
    rfl
  iexists _; isplitr; swap
  · iexists _; isplitr; swap; · iexact HS0
    ipureintro; rfl
  ipureintro
  delta run_next.sl.v41 run_next.sl.HS0_1
  simp only [hx0, hx1, hx2, View.readCov, View.readAt_unit (Val := Elt F) arg10.view _ inb_S528x5632_S8x5632_512_0 rfl inb_S528x5632_S8x5632_512_0]
  rw [View.read_writes_cons_put arg10.view _ inb_S528x5632_S8x5632_0_0 _ _ rfl, headOf_put,
    View.read_writes_cons_put arg10.view _ inb_S528x5632_S512x5632_8_0 _ _ rfl, window_tail]
  rfl

end Cert.FfnIdeal.Hand

end
-- ==== Proof.FfnIdealData.lean ====
/-
  The feed-forward pipeline's proof data: at a point that is not the first of its sequence the scratch's first rows hold the end of
  the row block before; with it the body's obligation, the run of the whole call and its frame.
-/
module

public import proofs.«01_k».proof.Defs
public import proofs.«01_k».proof.Proof.FfnIdealRun
public import Idealize.ShloMosaic.Lib.Claim

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- Window 0's staging buffer at point `t`. -/
abbrev ms0 (t : Fin cfg0.N) : Memref sig .tc .vmem S1x512x1024 .f32 := win0_0.stage (cfg0.slots t 0)
/-- Window 1's staging buffer at point `t`. -/
abbrev ms1 (t : Fin cfg0.N) : Memref sig .tc .vmem S1x1024 .f32 := win0_1.stage (cfg0.slots t 1)
/-- Window 2's staging buffer at point `t`. -/
abbrev ms2 (t : Fin cfg0.N) : Memref sig .tc .vmem S1024x5632 .bf16 := win0_2.stage (cfg0.slots t 2)
/-- Window 3's staging buffer at point `t`. -/
abbrev ms3 (t : Fin cfg0.N) : Memref sig .tc .vmem S3x5632 .f32 := win0_3.stage (cfg0.slots t 3)
/-- Window 4's staging buffer at point `t`. -/
abbrev ms4 (t : Fin cfg0.N) : Memref sig .tc .vmem S1x5632 .f32 := win0_4.stage (cfg0.slots t 4)
/-- Window 5's staging buffer at point `t`. -/
abbrev ms5 (t : Fin cfg0.N) : Memref sig .tc .vmem S2816x1024 .bf16 := win0_5.stage (cfg0.slots t 5)
/-- Window 6's staging buffer at point `t`. -/
abbrev ms6 (t : Fin cfg0.N) : Memref sig .tc .vmem S1x1024 .f32 := win0_6.stage (cfg0.slots t 6)
/-- Window 7's staging buffer at point `t`. -/
abbrev ms7 (t : Fin cfg0.N) : Memref sig .tc .vmem S1x512x1024 .f32 := win0_7.stage (cfg0.slots t 7)

/-- The scratch as the body is handed it. -/
abbrev scr : Memref sig .tc .vmem S528x5632 .f32 := Memref.whole cc0_scratch0

theorem points : cfg0.N = 32 := N_0

/-- The test for a sequence's first row block, by the point's number: a sequence has sixteen. -/
theorem first_iff (t : Fin cfg0.N) : First (grid0.coords t) ↔ t.val % 16 = 0 := by
  have ht : t.val < 32 := Nat.lt_of_lt_of_eq t.isLt N_0
  have e1 : (grid0.coords t 1).val = t.val / 1 % 16 := Pipeline.Grid.coords_val t 1 (by decide) rfl
  simp only [First, e1]
  word_cmp

/-- Point `t`'s rows of hidden activations. -/
def upAt (c : Dev nD) (t : Fin cfg0.N) : Vec F S512x5632 .f32 := up (iblk m c 0 t) (iblk m c 1 t) (iblk m c 2 t)

/-- The point before. -/
abbrev prev (n : Nat) (hn : n ≤ cfg0.N) : Fin cfg0.N := ⟨n - 1, by have := points; omega⟩

/-- The eight rows that stand before point `t`'s own. -/
def headAt (c : Dev nD) (t : Fin cfg0.N) : Vec F S8x5632 .f32 :=
  if t.val % 16 = 0 then k0_pay2 (F := F) else k0_pay6 (tailOf (upAt m c (prev t.val t.isLt.le)))

/-- The output block of point `t`. -/
def outAt (c : Dev nD) (t : Fin cfg0.N) : Vec F S1x512x1024 .f32 :=
  out (iblk m c 0 t) (iblk m c 3 t) (iblk m c 4 t) (iblk m c 5 t) (iblk m c 6 t) (headAt m c t) (upAt m c t)

/-- What the body carries from point to point: the scratch, its first rows known inside a sequence, and the generator's register. -/
def carried (c : Dev nD) (t : Fin (cfg0.N + 1)) : sProp 𝕄 :=
  iprop((∃ d, ⌜t.val % 16 ≠ 0 → headOf d = k0_pay6 (tailOf (upAt m c (prev t.val (Nat.le_of_lt_succ t.isLt))))⌝
      ∗ owns (c : Thread nD τ) scr fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := carried m c t
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7]
  rw [show (dats m 0 c).Φ t.castSucc = carried m c t.castSucc from rfl, show (dats m 0 c).Φ t.succ = carried m c t.succ from rfl]
  unfold carried
  by_cases h0 : t.val % 16 = 0
  · have eh : headAt m c t = k0_pay2 (F := F) := by unfold headAt; rw [if_pos h0]
    unfold outAt; rw [eh]
    iintro ⟨⟨⟨%e, %he, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) e Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, ⟨%d, %hd, HS⟩⟩
    isplitl [HS Hg]
    · isplitl [HS]
      · iexists d; isplitr; swap; · iexact HS
        ipureintro; intro _; exact hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨%e, %he, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have eh : headAt m c t = headOf e := by unfold headAt; rw [if_neg h0]; exact (he h0).symm
    unfold outAt; rw [eh]
    iapply (run_next c (grid0.coords t) _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) e Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, ⟨%d, %hd, HS⟩⟩
    isplitl [HS Hg]
    · isplitl [HS]
      · iexists d; isplitr; swap; · iexact HS
        ipureintro; intro _; exact hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact Idealize.ShloMosaic.triple_restated (sound_body m c t) rfl .rfl fun _ => .rfl

/-! ## The run -/

theorem kept (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

theorem carried_start (c : Dev nD) : Pipeline.ΦA spec0 c ⊢ carried (F := F) m c 0 := by
  rw [kept]; unfold carried
  iintro ⟨⟨%d, HS⟩, Hg⟩
  isplitl [HS]
  · iexists d; isplitr; swap; · iexact HS
    ipureintro; intro h; exact absurd rfl h
  iexact Hg

theorem carried_end (c : Dev nD) : carried (F := F) m c (Fin.last cfg0.N) ⊢ Pipeline.ΦA spec0 c := by
  rw [kept]; unfold carried
  iintro ⟨⟨%d, -, HS⟩, Hg⟩
  isplitl [HS]
  · iexists d; iexact HS
  iexact Hg

set_option backward.isDefEq.respectTransparency.types false in
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carried_start m) (hout := carried_end m)

/-- Every final state: the arguments are as launched, no counter is raised, and the result's array is what the blocks left in it. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.FfnIdeal.Hand

end
-- ==== Proof.FfnMath.lean ====
/-
  The arithmetic of one row of the gated feed-forward layer, on extended reals: the root-mean-square normalisation, the
  gate in its two forms, and that they agree where the gate's argument is a real.
-/
module

public import proofs.«01_k».proof.Proof.Softmax

@[expose] public section
noncomputable section
open Idealize.ShloMosaic
namespace Cert.Hand

/-- One over the root of a row's mean square, with the small number added. -/
def rms (x : Fin 1024 → EReal) : EReal :=
  Ideal.rsqrt (Ideal.div (∑ k, x k * x k) (Ideal.ofBits FTy.f32 1149239296#32) + Ideal.ofBits FTy.f32 897988541#32)

/-- The gate by the hyperbolic tangent of half the argument. -/
def gateT (z : EReal) : EReal :=
  Ideal.ofBits FTy.f32 1056964608#32 * z + Ideal.ofBits FTy.f32 1056964608#32 * z * Ideal.tanh (Ideal.ofBits FTy.f32 1056964608#32 * z)

/-- The gate by the exponential. -/
def gateE (z : EReal) : EReal := z * Ideal.div 1 (1 + Ideal.exp (-z))

/-- The row a residual row, the gated hidden row and the down-projection give, normalised. -/
def rowOut (h : Fin 1024 → EReal) (a : Fin 2816 → EReal) (w : Fin 2816 → Fin 1024 → EReal) (g : Fin 1024 → EReal) (d : Fin 1024) : EReal :=
  (h d + ∑ j, a j * w j d) * rms (fun d' => h d' + ∑ j, a j * w j d') * g d

/-- The hidden row: the gate's half of the columns through `f`, times the other half. -/
def gated (f : EReal → EReal) (z : Fin 5632 → EReal) (j : Fin 2816) : EReal :=
  f (z ⟨j.val, by omega⟩) * z ⟨2816 + j.val, by omega⟩

theorem ofBits_half : Ideal.ofBits FTy.f32 1056964608#32 = (((1 / 2 : ℝ)) : EReal) := by
  simp [Ideal.ofBits, Ideal.ieee, -EReal.coe_mul]; norm_num

theorem ofBits_width : Ideal.ofBits FTy.f32 1149239296#32 = (((1024 : ℝ)) : EReal) := by
  simp [Ideal.ofBits, Ideal.ieee, -EReal.coe_mul]; norm_num

theorem ofBits_small : ∃ e : ℝ, 0 < e ∧ Ideal.ofBits FTy.f32 897988541#32 = (e : EReal) := by
  refine ⟨_, ?_, by simp [Ideal.ofBits, Ideal.ieee, -EReal.coe_mul]; rfl⟩
  norm_num

theorem half_tanh (x : ℝ) : 1 / 2 * x + 1 / 2 * x * Real.tanh (1 / 2 * x) = x * (1 / (1 + Real.exp (-x))) := by
  have hx : Real.exp (-x) = Real.exp (-(1 / 2 * x)) * Real.exp (-(1 / 2 * x)) := by rw [← Real.exp_add]; congr 1; ring
  have hp := Real.exp_pos (1 / 2 * x)
  have hm := Real.exp_pos (-(1 / 2 * x))
  have hpm : Real.exp (1 / 2 * x) * Real.exp (-(1 / 2 * x)) = 1 := by rw [← Real.exp_add]; simp
  rw [Real.tanh_eq_sinh_div_cosh, Real.sinh_eq, Real.cosh_eq, hx]
  generalize Real.exp (1 / 2 * x) = p at *
  generalize Real.exp (-(1 / 2 * x)) = q at *
  have h1 : p + q ≠ 0 := by positivity
  have h2 : 1 + q * q ≠ 0 := by positivity
  field_simp
  linear_combination (2 * x * q) * hpm

theorem gate_eq (x : ℝ) : gateT (x : EReal) = gateE (x : EReal) := by
  have hpos : (1 + Real.exp (-x)) ≠ 0 := by positivity
  unfold gateT gateE
  rw [ofBits_half, ← EReal.coe_mul, Ideal.tanh_coe, ← EReal.coe_mul, ← EReal.coe_add, ← EReal.coe_neg, Ideal.exp_coe,
    ← EReal.coe_one, ← EReal.coe_add, Ideal.div_coe hpos, ← EReal.coe_mul, ← EReal.coe_mul, half_tanh, one_mul]

theorem sq_nonneg' (x : EReal) : 0 ≤ x * x := by
  induction x with
  | bot => simp
  | coe r => rw [← EReal.coe_mul]; exact_mod_cast mul_self_nonneg r
  | top => simp

/-- Each entry of a row times the row's scale is a real: a row of reals has a positive mean square plus the small number, and
    a row with an infinity has scale zero. -/
theorem scaled_real (x : Fin 1024 → EReal) (k : Fin 1024) : ∃ y : ℝ, x k * rms x = (y : EReal) := by
  obtain ⟨e, he, hE⟩ := ofBits_small
  unfold rms
  rw [hE, ofBits_width, Ideal.div_coe (by norm_num)]
  by_cases hr : ∀ i, ∃ r : ℝ, x i = (r : EReal)
  · choose r hr using hr
    have hs : (∑ i, x i * x i) * ((1 / 1024 : ℝ) : EReal) + (e : EReal) = (((∑ i, r i * r i) * (1 / 1024) + e : ℝ) : EReal) := by
      simp only [hr, ← EReal.coe_mul, ← coe_sum, ← EReal.coe_add]
    have hpos : 0 < (∑ i, r i * r i) * (1 / 1024) + e := by
      have : 0 ≤ ∑ i, r i * r i := Finset.sum_nonneg fun i _ => mul_self_nonneg _
      positivity
    rw [hs, Ideal.rsqrt_coe, if_neg (not_lt.mpr hpos.le), if_neg hpos.ne', hr k, ← EReal.coe_mul]
    exact ⟨_, rfl⟩
  · simp only [not_forall] at hr
    obtain ⟨i, hi⟩ := hr
    have ht : x i * x i = ⊤ := by
      generalize x i = z at hi
      induction z with
      | bot => simp
      | coe r => exact absurd ⟨r, rfl⟩ hi
      | top => simp
    have hs : ∑ i, x i * x i = ⊤ := by
      rw [eq_top_iff, ← ht]
      exact Finset.single_le_sum (f := fun i => x i * x i) (fun i _ => sq_nonneg' (x i)) (Finset.mem_univ i)
    rw [hs, EReal.top_mul_coe_of_pos (by norm_num), EReal.top_add_coe, Ideal.rsqrt_top, mul_zero]
    exact ⟨0, rfl⟩

end Cert.Hand
end
-- ==== Proof.FfnKer.lean ====
/-
  What the feed-forward kernel's block computes, entry by entry.
-/
module

public import proofs.«01_k».proof.Defs
public import proofs.«01_k».proof.Proof.FfnIdealRun
public import proofs.«01_k».proof.Proof.FfnMath
public import Idealize.ShloMosaic.Lib.Pointwise

@[expose] public section

noncomputable section
namespace Cert.FfnIdeal.Hand
open Idealize.ShloMosaic Idealize.ShloMosaic.TcCoe Idealize.SL.Sem
open Cert.FfnIdeal Cert.FfnIdeal.Gen Idealize.ShloMosaic.Pointwise Cert.Hand

theorem up_apply (x0 : Vec Ideal S1x512x1024 .f32) (x1 : Vec Ideal S1x1024 .f32) (x2 : Vec Ideal S1024x5632 .bf16) (r : Fin 512) (c : Fin 5632) :
    up x0 x1 x2 (ix2 r c)
      = ∑ k : Fin 1024, x0 (ix3 0 r k) * rms (fun k' => x0 (ix3 0 r k')) * x1 (ix2 0 k) * x2 (ix2 k c) := by
  unfold up rms
  pointwise [k0_pay4, k0_pay3]

theorem pay5_apply (v24 : Vec Ideal S1x5632 .f32) (v25 : Vec Ideal S512x5632 .f32) (v26 : Vec Ideal S1x5632 .f32) (r : Fin 512) (c : Fin 5632) :
    k0_pay5 v24 v25 v26 (ix2 r c) = v24 (ix2 0 c) + v25 (ix2 r c) * v26 (ix2 0 c) := by
  pointwise [k0_pay5]

theorem pay7_apply (v4 : FVec Ideal S512x1024 .f32) (v30 : FVec Ideal S512x5632 .f32) (v31 : Vec Ideal S512x5632 .f32) (v32 : Vec Ideal S1x5632 .f32) (v36 : Vec Ideal S512x5632 .f32) (v37 : Vec Ideal S1x5632 .f32) (v54 : Vec Ideal S2816x1024 .bf16) (v67 : Vec Ideal S1x1024 .f32) (r : Fin 512) (d : Fin 1024) :
    k0_pay1 (k0_pay7 v4 v30 v31 v32 v36 v37 v54 v67) (ix3 (0 : Fin 1) r d)
      = rowOut (fun d => v4 (ix2 r d))
          (gated gateT fun c => v30 (ix2 r c) + v31 (ix2 r c) * v32 (ix2 0 c) + v36 (ix2 r c) * v37 (ix2 0 c))
          (fun j d => v54 (ix2 j d)) (fun d => v67 (ix2 0 d)) d := by
  unfold rowOut gated gateT rms
  pointwise [k0_pay1, k0_pay7]

theorem pay3_apply (x0 : Vec Ideal S1x512x1024 .f32) (r : Fin 512) (d : Fin 1024) :
    k0_pay3 x0 (ix2 r d) = x0 (ix3 0 r d) := by
  pointwise [k0_pay3]

theorem pay2_apply (j : S8x5632.Idx) : k0_pay2 (F := Ideal) j = 0 := by
  obtain ⟨r, c, rfl⟩ : ∃ (r : Fin 8) (c : Fin 5632), j = ix2 r c := ⟨_, _, ValueIdx.eq_ix2 j⟩
  pointwise [k0_pay2]

theorem pay6_apply (v : Vec Ideal S8x5632 .f32) (j : S8x5632.Idx) : k0_pay6 (F := Ideal) v j = v j := by
  obtain ⟨r, c, rfl⟩ : ∃ (r : Fin 8) (c : Fin 5632), j = ix2 r c := ⟨_, _, ValueIdx.eq_ix2 j⟩
  pointwise [k0_pay6]

end Cert.FfnIdeal.Hand
end
-- ==== Proof.FfnRefQ.lean ====
/-
  The feed-forward reference, read stage by stage: the hidden columns, the causal convolution, and the result's entries.
-/
module

public import proofs.«01_k».proof.Defs
public import proofs.«01_k».proof.Proof.FfnMath
public import proofs.«01_k».proof.Proof.Gen.FfnRefIdeal.Read
public import Idealize.ShloMosaic.Lib.Pointwise
public import Idealize.ShloMosaic.Lib.KernelVsHost

@[expose] public section
noncomputable section
open Idealize.ShloMosaic Idealize.ShloMosaic.TcCoe Idealize.SL.Sem
namespace Cert.FfnRefIdeal.Hand
open Cert.FfnRefIdeal Cert.FfnRefIdeal.Gen Cert.FfnRefIdeal.Read Idealize.ShloMosaic.Pointwise Cert.Hand

variable (x0 : (⟨S2x8192x1024, .f32⟩ : BufTy).Contents (Elt Ideal)) (x1 : (⟨S1x1024, .f32⟩ : BufTy).Contents (Elt Ideal))
  (x2 : (⟨S1024x5632, .bf16⟩ : BufTy).Contents (Elt Ideal)) (x3 : (⟨S3x5632, .f32⟩ : BufTy).Contents (Elt Ideal))
  (x4 : (⟨S1x5632, .f32⟩ : BufTy).Contents (Elt Ideal)) (x5 : (⟨S2816x1024, .bf16⟩ : BufTy).Contents (Elt Ideal))
  (x6 : (⟨S1x1024, .f32⟩ : BufTy).Contents (Elt Ideal))

/-- The up-projection of the normalised row. -/
def hid (b : Fin 2) (s : Fin 8192) (c : Fin 5632) : EReal :=
  ∑ k : Fin 1024, x0 (ix3 b s k) * rms (fun k' => x0 (ix3 b s k')) * x1 (ix2 0 k) * x2 (ix2 k c)

/-- The hidden row `k` places earlier in the sequence, zero before its start. -/
def earlier (k : Nat) (b : Fin 2) (s : Fin 8192) (c : Fin 5632) : EReal :=
  if k ≤ s.val then hid x0 x1 x2 b ⟨s.val - k, by omega⟩ c else 0

/-- The causal convolution over three rows. -/
def conv (b : Fin 2) (s : Fin 8192) (c : Fin 5632) : EReal :=
  x4 (ix2 0 c) + earlier x0 x1 x2 2 b s c * x3 (ix2 0 c) + earlier x0 x1 x2 1 b s c * x3 (ix2 1 c)
    + earlier x0 x1 x2 0 b s c * x3 (ix2 2 c)

theorem scale_apply (b : Fin 2) (s : Fin 8192) : val_main_v8 (F := Ideal) x0 (ix3 b s 0) = rms (fun k => x0 (ix3 b s k)) := by
  rw [val_main_v8_apply, val_main_v7_apply, val_main_v5_apply, val_main_v3_apply, val_main_v4_apply, val_main_v6_apply,
    val_main_cst_0_apply, val_main_cst_1_apply, val_main_v2_apply, val_main_cst_apply]
  unfold rms
  have e : ∀ k, idx_main_v2 (idx_main_v3 (ix3 b s (0 : Fin 1))) k = ix3 b s k := fun k => funext fun a => by fin_cases a <;> rfl
  simp only [val_main_v1_apply, e]
  pointwise []

theorem norm_apply (b : Fin 2) (s : Fin 8192) (k : Fin 1024) : val_main_v13 (F := Ideal) x0 x1 (ix3 b s k)
    = x0 (ix3 b s k) * rms (fun k => x0 (ix3 b s k)) * x1 (ix2 0 k) := by
  rw [val_main_v13_apply, val_main_v12_apply, val_main_v11_apply, val_main_v0_apply, val_main_v10_apply, val_main_v9_apply,
    ← scale_apply]
  have e : idx_main_v9 (ix3 b s k) = ix3 b s 0 := funext fun a => by fin_cases a <;> rfl
  have e' : idx_main_v0 (idx_main_v11 (idx_main_v12 (ix3 b s k))) = ix2 0 k := funext fun a => by
    fin_cases a <;> refine Fin.ext ?_ <;> simp <;> omega
  rw [e, e']
  rfl

theorem hid_apply (b : Fin 2) (s : Fin 8192) (c : Fin 5632) :
    val_main_v15 (F := Ideal) x0 x1 x2 (ix3 b s c) = hid x0 x1 x2 b s c := by
  rw [val_main_v15_apply]
  refine Finset.sum_congr rfl fun k _ => ?_
  rw [← norm_apply, val_main_v14_apply]
  have e1 : lidx_main_v15 (ix3 b s c) k = ix3 b s k := funext fun a => by fin_cases a <;> rfl
  have e2 : ridx_main_v15 (ix3 b s c) k = ix2 k c := funext fun a => by fin_cases a <;> rfl
  rw [e1, e2]
  rfl

theorem padded_apply (b : Fin 2) (s : Fin 8192) (k : Nat) (hk : k ≤ 2) (c : Fin 5632) :
    val_main_v16 (F := Ideal) x0 x1 x2 (ix3 b ⟨s.val + (2 - k), by omega⟩ c) = earlier x0 x1 x2 k b s c := by
  unfold val_main_v16 earlier
  split
  · rw [← hid_apply]
    refine pad_apply_of_inside _ _ _ _ _ _ _ _ _ fun a => ?_
    fin_cases a <;> simp <;> omega
  · rw [pad_apply_of_not_inside (a := (1 : Fin 3))]
    · unfold val_main_call0_v0
      pointwise [val_main_c]
      show (((0#32 : BitVec 32).toInt : ℝ) : EReal) = 0
      simp
    · simp; omega

theorem two_back (b : Fin 2) (s : Fin 8192) (c : Fin 5632) : val_main_v17 (F := Ideal) x0 x1 x2 (ix3 b s c) = earlier x0 x1 x2 2 b s c := by
  rw [val_main_v17_apply, ← padded_apply x0 x1 x2 b s 2 (by omega) c]
  refine congrArg _ (funext fun a => ?_)
  fin_cases a <;> refine Fin.ext ?_ <;> simp

theorem one_back (b : Fin 2) (s : Fin 8192) (c : Fin 5632) : val_main_v25 (F := Ideal) x0 x1 x2 (ix3 b s c) = earlier x0 x1 x2 1 b s c := by
  rw [val_main_v25_apply, ← padded_apply x0 x1 x2 b s 1 (by omega) c]
  refine congrArg _ (funext fun a => ?_)
  fin_cases a <;> refine Fin.ext ?_ <;> simp <;> omega

theorem none_back (b : Fin 2) (s : Fin 8192) (c : Fin 5632) : val_main_v32 (F := Ideal) x0 x1 x2 (ix3 b s c) = earlier x0 x1 x2 0 b s c := by
  rw [val_main_v32_apply, ← padded_apply x0 x1 x2 b s 0 (by omega) c]
  refine congrArg _ (funext fun a => ?_)
  fin_cases a <;> refine Fin.ext ?_ <;> simp <;> omega

theorem tap0 (b : Fin 2) (s : Fin 8192) (c : Fin 5632) : val_main_v21 (F := Ideal) x3 (ix3 b s c) = x3 (ix2 0 c) := by
  rw [val_main_v21_apply, val_main_v20_apply, val_main_v19_apply, val_main_v18_apply]
  refine congrArg _ (funext fun a => ?_)
  fin_cases a <;> refine Fin.ext ?_ <;> simp <;> omega

theorem tap1 (b : Fin 2) (s : Fin 8192) (c : Fin 5632) : val_main_v29 (F := Ideal) x3 (ix3 b s c) = x3 (ix2 1 c) := by
  rw [val_main_v29_apply, val_main_v28_apply, val_main_v27_apply, val_main_v26_apply]
  refine congrArg _ (funext fun a => ?_)
  fin_cases a <;> refine Fin.ext ?_ <;> simp <;> omega

theorem tap2 (b : Fin 2) (s : Fin 8192) (c : Fin 5632) : val_main_v36 (F := Ideal) x3 (ix3 b s c) = x3 (ix2 2 c) := by
  rw [val_main_v36_apply, val_main_v35_apply, val_main_v34_apply, val_main_v33_apply]
  refine congrArg _ (funext fun a => ?_)
  fin_cases a <;> refine Fin.ext ?_ <;> simp <;> omega

theorem bias (b : Fin 2) (s : Fin 8192) (c : Fin 5632) : val_main_v41 (F := Ideal) x4 (ix3 b s c) = x4 (ix2 0 c) := by
  rw [val_main_v41_apply, val_main_v40_apply, val_main_v39_apply]
  refine congrArg _ (funext fun a => ?_)
  fin_cases a <;> refine Fin.ext ?_ <;> simp <;> omega

theorem conv_apply (b : Fin 2) (s : Fin 8192) (c : Fin 5632) :
    val_main_v42 (F := Ideal) x0 x1 x2 x3 x4 (ix3 b s c) = conv x0 x1 x2 x3 x4 b s c := by
  rw [val_main_v42_apply, val_main_v38_apply, val_main_v31_apply, val_main_v24_apply, val_main_v23_apply, val_main_cst_2_apply,
    val_main_v22_apply, val_main_v30_apply, val_main_v37_apply, tap0, tap1, tap2, bias, two_back, one_back, none_back]
  unfold conv
  pointwise []
  first | ac_rfl | (rw [zero_add]; ac_rfl)

theorem act_apply (b : Fin 2) (s : Fin 8192) (j : Fin 2816) :
    val_main_v46 (F := Ideal) x0 x1 x2 x3 x4 (ix3 b s j) = gated gateE (conv x0 x1 x2 x3 x4 b s) j := by
  have e1 : val_main_v43 (F := Ideal) x0 x1 x2 x3 x4 (ix3 b s j) = conv x0 x1 x2 x3 x4 b s ⟨j.val, by omega⟩ := by
    rw [val_main_v43_apply, ← conv_apply]
    refine congrArg _ (funext fun a => ?_)
    fin_cases a <;> refine Fin.ext ?_ <;> simp
  have e2 : val_main_v44 (F := Ideal) x0 x1 x2 x3 x4 (ix3 b s j) = conv x0 x1 x2 x3 x4 b s ⟨2816 + j.val, by omega⟩ := by
    rw [val_main_v44_apply, ← conv_apply]
    refine congrArg _ (funext fun a => ?_)
    fin_cases a <;> refine Fin.ext ?_ <;> simp <;> omega
  unfold gated gateE
  rw [val_main_v46_apply, val_main_v45_apply, ← e1, ← e2]
  unfold val_main_call1_v5 val_main_call1_v4 val_main_call1_v3 val_main_call1_v2 val_main_call1_v1 val_main_call1_v0
  generalize val_main_v43 (F := Ideal) x0 x1 x2 x3 x4 = y
  generalize val_main_v44 (F := Ideal) x0 x1 x2 x3 x4 = z
  pointwise [val_main_call1_cst, val_main_call1_cst_0]

theorem resid_apply (b : Fin 2) (s : Fin 8192) (d : Fin 1024) :
    val_main_v49 (F := Ideal) x0 x1 x2 x3 x4 x5 (ix3 b s d)
      = x0 (ix3 b s d) + ∑ j : Fin 2816, gated gateE (conv x0 x1 x2 x3 x4 b s) j * x5 (ix2 j d) := by
  simp only [← act_apply]
  rw [val_main_v49_apply, val_main_v48_apply]
  have e1 : ∀ j, lidx_main_v48 (ix3 b s d) j = ix3 b s j := fun j => funext fun a => by fin_cases a <;> rfl
  have e2 : ∀ j, ridx_main_v48 (ix3 b s d) j = ix2 j d := fun j => funext fun a => by fin_cases a <;> rfl
  simp only [e1, e2, val_main_v47_apply]
  rfl

theorem last_scale_apply (b : Fin 2) (s : Fin 8192) :
    val_main_v58 (F := Ideal) x0 x1 x2 x3 x4 x5 (ix3 b s 0) = rms (fun d => val_main_v49 (F := Ideal) x0 x1 x2 x3 x4 x5 (ix3 b s d)) := by
  rw [val_main_v58_apply, val_main_v57_apply, val_main_v55_apply, val_main_v53_apply, val_main_v54_apply, val_main_v56_apply,
    val_main_cst_4_apply, val_main_cst_5_apply, val_main_v52_apply, val_main_cst_3_apply]
  unfold rms
  have e : ∀ k, idx_main_v52 (idx_main_v53 (ix3 b s (0 : Fin 1))) k = ix3 b s k := fun k => funext fun a => by fin_cases a <;> rfl
  simp only [val_main_v51_apply, e]
  generalize val_main_v49 (F := Ideal) x0 x1 x2 x3 x4 x5 = y
  pointwise []

theorem out_apply (b : Fin 2) (s : Fin 8192) (d : Fin 1024) :
    val_main_v63 (F := Ideal) x0 x1 x2 x3 x4 x5 x6 (ix3 b s d)
      = rowOut (fun d => x0 (ix3 b s d)) (gated gateE (conv x0 x1 x2 x3 x4 b s)) (fun j d => x5 (ix2 j d)) (fun d => x6 (ix2 0 d)) d := by
  have hr : rowOut (fun d => x0 (ix3 b s d)) (gated gateE (conv x0 x1 x2 x3 x4 b s)) (fun j d => x5 (ix2 j d)) (fun d => x6 (ix2 0 d)) d
      = val_main_v49 (F := Ideal) x0 x1 x2 x3 x4 x5 (ix3 b s d)
        * rms (fun d => val_main_v49 (F := Ideal) x0 x1 x2 x3 x4 x5 (ix3 b s d)) * x6 (ix2 0 d) := by
    unfold rowOut
    simp only [resid_apply]
  rw [hr, val_main_v63_apply, val_main_v62_apply, val_main_v61_apply, val_main_v50_apply, val_main_v60_apply, val_main_v59_apply,
    ← last_scale_apply]
  have e : idx_main_v59 (ix3 b s d) = ix3 b s 0 := funext fun a => by fin_cases a <;> rfl
  have e' : idx_main_v50 (idx_main_v61 (idx_main_v62 (ix3 b s d))) = ix2 0 d := funext fun a => by
    fin_cases a <;> refine Fin.ext ?_ <;> simp <;> omega
  rw [e, e']
  rfl

/-- The gate columns of the convolution are reals where the weights they read are. -/
theorem conv_real (h1 : ∀ k, ∃ r : ℝ, x1 (ix2 0 k) = r) (h2 : ∀ k (j : Fin 2816), ∃ r : ℝ, x2 (ix2 k ⟨j.val, by omega⟩) = r)
    (h3 : ∀ t (j : Fin 2816), ∃ r : ℝ, x3 (ix2 t ⟨j.val, by omega⟩) = r) (h4 : ∀ j : Fin 2816, ∃ r : ℝ, x4 (ix2 0 ⟨j.val, by omega⟩) = r)
    (b : Fin 2) (s : Fin 8192) (j : Fin 2816) : ∃ r : ℝ, conv x0 x1 x2 x3 x4 b s ⟨j.val, by omega⟩ = r := by
  have hh : ∀ s, ∃ r : ℝ, hid x0 x1 x2 b s ⟨j.val, by omega⟩ = r := fun s => by
    choose y hy using scaled_real (fun k => x0 (ix3 b s k))
    choose g hg using h1
    choose w hw using h2
    refine ⟨∑ k, y k * g k * w k j, ?_⟩
    unfold hid
    rw [coe_sum]
    refine Finset.sum_congr rfl fun k _ => ?_
    rw [hy, hg, hw, EReal.coe_mul, EReal.coe_mul]
  have he : ∀ k, ∃ r : ℝ, earlier x0 x1 x2 k b s ⟨j.val, by omega⟩ = r := fun k => by
    unfold earlier
    split
    · exact hh _
    · exact ⟨0, rfl⟩
  choose e he using he
  choose w hw using fun t => h3 t j
  obtain ⟨z, hz⟩ := h4 j
  refine ⟨z + e 2 * w 0 + e 1 * w 1 + e 0 * w 2, ?_⟩
  unfold conv
  simp only [he, hw, hz, EReal.coe_mul, EReal.coe_add]

end Cert.FfnRefIdeal.Hand
end
-- ==== Proof.FfnVal.lean ====
/-
  The feed-forward kernel's result array holds, block by block, the reference's result.
-/
module

public import proofs.«01_k».proof.Defs
public import proofs.«01_k».proof.Proof.FfnIdealData
public import proofs.«01_k».proof.Proof.FfnKer
public import proofs.«01_k».proof.Proof.FfnRefQ
public import Idealize.ShloMosaic.Lib.Pipeline.ValueKit

@[expose] public section
noncomputable section
open Idealize.ShloMosaic Idealize.ShloMosaic.TcCoe Idealize.SL.Sem
namespace Cert.FfnIdeal.Hand
open Cert.FfnIdeal Cert.FfnIdeal.Gen Idealize.ShloMosaic.Pointwise Cert.Hand Cert.FfnRefIdeal.Hand
open Idealize.ShloMosaic.Pipeline (Dat Cfg Window)

set_option maxRecDepth 16384
set_option maxHeartbeats 2000000

theorem idx : ∀ t : Fin cfg0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 16, t.val % 16, 0] :=
  (by decide +kernel : ∀ t : Fin grid0.N, _)

variable (m : (ℓ : Loc nD τ sig) → Buf (Elt Ideal) ℓ)

/-- The batch and the row of row `r` of point `t`'s block. -/
abbrev bAt (t : Fin cfg0.N) : Fin 2 := ⟨t.val / 16, by have := t.isLt; have : cfg0.N = 32 := N_0; omega⟩
abbrev rAt (t : Fin cfg0.N) (r : Fin 512) : Fin 8192 := ⟨t.val % 16 * 512 + r.val, by omega⟩

/-- The launched arrays. -/
abbrev a0 (c : Dev nD) : (⟨S2x8192x1024, .f32⟩ : BufTy).Contents (Elt Ideal) := m ((c : Thread nD τ).loc main_arg0)
abbrev a1 (c : Dev nD) : (⟨S1x1024, .f32⟩ : BufTy).Contents (Elt Ideal) := m ((c : Thread nD τ).loc main_arg1)
abbrev a2 (c : Dev nD) : (⟨S1024x5632, .bf16⟩ : BufTy).Contents (Elt Ideal) := m ((c : Thread nD τ).loc main_arg2)
abbrev a3 (c : Dev nD) : (⟨S3x5632, .f32⟩ : BufTy).Contents (Elt Ideal) := m ((c : Thread nD τ).loc main_arg3)
abbrev a4 (c : Dev nD) : (⟨S1x5632, .f32⟩ : BufTy).Contents (Elt Ideal) := m ((c : Thread nD τ).loc main_arg4)
abbrev a5 (c : Dev nD) : (⟨S2816x1024, .bf16⟩ : BufTy).Contents (Elt Ideal) := m ((c : Thread nD τ).loc main_arg5)
abbrev a6 (c : Dev nD) : (⟨S1x1024, .f32⟩ : BufTy).Contents (Elt Ideal) := m ((c : Thread nD τ).loc main_arg6)

theorem blk0 (c : Dev nD) (t : Fin cfg0.N) (r : Fin 512) (j : Fin 1024) :
    iblk m c 0 t (ix3 0 r j) = a0 m c (ix3 (bAt t) (rAt t r) j) := by
  blk_ext! [iblk, V, idx t]
theorem blk1 (c : Dev nD) (t : Fin cfg0.N) (j : Fin 1024) : iblk m c 1 t (ix2 0 j) = a1 m c (ix2 0 j) := by
  blk_ext! [iblk, V, idx t]
theorem blk2 (c : Dev nD) (t : Fin cfg0.N) (i : Fin 1024) (j : Fin 5632) : iblk m c 2 t (ix2 i j) = a2 m c (ix2 i j) := by
  blk_ext! [iblk, V, idx t]
theorem blk3 (c : Dev nD) (t : Fin cfg0.N) (i : Fin 3) (j : Fin 5632) : iblk m c 3 t (ix2 i j) = a3 m c (ix2 i j) := by
  blk_ext! [iblk, V, idx t]
theorem blk4 (c : Dev nD) (t : Fin cfg0.N) (j : Fin 5632) : iblk m c 4 t (ix2 0 j) = a4 m c (ix2 0 j) := by
  blk_ext! [iblk, V, idx t]
theorem blk5 (c : Dev nD) (t : Fin cfg0.N) (i : Fin 2816) (j : Fin 1024) : iblk m c 5 t (ix2 i j) = a5 m c (ix2 i j) := by
  blk_ext! [iblk, V, idx t]
theorem blk6 (c : Dev nD) (t : Fin cfg0.N) (j : Fin 1024) : iblk m c 6 t (ix2 0 j) = a6 m c (ix2 0 j) := by
  blk_ext! [iblk, V, idx t]

theorem up_row (c : Dev nD) (t : Fin cfg0.N) (r : Fin 512) (j : Fin 5632) :
    upAt m c t (ix2 r j) = hid (a0 m c) (a1 m c) (a2 m c) (bAt t) (rAt t r) j := by
  unfold upAt hid
  rw [up_apply]
  simp only [blk0, blk1, blk2]

theorem rows_row (c : Dev nD) (t : Fin cfg0.N) (k : Nat) (hk : k ≤ 2) (r : Fin 512) (j : Fin 5632) :
    rows (8 - k) (by omega) (headAt m c t) (upAt m c t) (ix2 r j)
      = earlier (a0 m c) (a1 m c) (a2 m c) k (bAt t) (rAt t r) j := by
  have hN : t.val < 32 := Nat.lt_of_lt_of_eq t.isLt N_0
  unfold rows earlier
  by_cases h : 8 - k + r.val < 8
  · rw [dif_pos (show 8 - k + (((ix2 r j : S512x5632.Idx) 0).val) < 8 from h)]
    unfold headAt
    by_cases h0 : t.val % 16 = 0
    · rw [if_pos h0, pay2_apply, if_neg (by show ¬ k ≤ t.val % 16 * 512 + r.val; omega)]
    · rw [if_neg h0, pay6_apply, if_pos (by show k ≤ t.val % 16 * 512 + r.val; omega)]
      unfold tailOf
      refine (up_row m c (prev t.val t.isLt.le) ⟨504 + (8 - k + r.val), by omega⟩ j).trans ?_
      congr 1
      · refine Fin.ext ?_; show (t.val - 1) / 16 = t.val / 16; omega
      · refine Fin.ext ?_; show (t.val - 1) % 16 * 512 + (504 + (8 - k + r.val)) = t.val % 16 * 512 + r.val - k; omega
  · rw [dif_neg (show ¬ 8 - k + (((ix2 r j : S512x5632.Idx) 0).val) < 8 from h), if_pos (by show k ≤ t.val % 16 * 512 + r.val; omega)]
    refine (up_row m c t ⟨8 - k + r.val - 8, by omega⟩ j).trans ?_
    congr 1
    refine Fin.ext ?_; show t.val % 16 * 512 + (8 - k + r.val - 8) = t.val % 16 * 512 + r.val - k; omega

theorem tap_apply (k : Nat) (inb : ∀ a, ![k, 0] a + S1x5632.size a ≤ S3x5632.size a) (hk : k < 3) (x3 : Vec Ideal S3x5632 .f32) (j : Fin 5632) :
    tap k inb x3 (ix2 0 j) = x3 (ix2 ⟨k, hk⟩ j) := by
  unfold tap VecWindow.window
  refine congrArg x3 (funext fun a => ?_)
  fin_cases a <;> refine Fin.ext ?_ <;> simp <;> rfl

/-- The result, with the gate as the kernel computes it. -/
def G (c : Dev nD) : Buf (Elt Ideal) ((c : Thread nD τ).loc main_v0) := fun (i : S2x8192x1024.Idx) =>
  rowOut (fun d => a0 m c (ix3 (i 0) (i 1) d)) (gated gateT (conv (a0 m c) (a1 m c) (a2 m c) (a3 m c) (a4 m c) (i 0) (i 1)))
    (fun j d => a5 m c (ix2 j d)) (fun d => a6 m c (ix2 0 d)) (i 2)

theorem row_eq (c : Dev nD) (t : Fin cfg0.N) (r : Fin 512) (d : Fin 1024) :
    outAt m c t (ix3 0 r d) = G m c (ix3 (bAt t) (rAt t r) d) := by
  unfold outAt out G
  rw [pay7_apply]
  simp only [pay5_apply, pay3_apply, blk0, blk5, blk6]
  have e2 := fun j => rows_row m c t 2 (by omega) r j
  have e1 := fun j => rows_row m c t 1 (by omega) r j
  have e0 := fun j => rows_row m c t 0 (by omega) r j
  norm_num only at e2 e1 e0
  have hc : ∀ (z : Vec Ideal S1x5632 .f32) (w : Vec Ideal S3x5632 .f32), (∀ j, z (ix2 0 j) = a4 m c (ix2 0 j)) →
      (∀ i j, w (ix2 i j) = a3 m c (ix2 i j)) →
      (fun j : Fin 5632 => z (ix2 0 j) + rows 6 (by decide) (headAt m c t) (upAt m c t) (ix2 r j) * tap 0 inb_S3x5632_S1x5632_0_0 w (ix2 0 j)
        + rows 7 (by decide) (headAt m c t) (upAt m c t) (ix2 r j) * tap 1 inb_S3x5632_S1x5632_1_0 w (ix2 0 j)
        + rows 8 (by decide) (headAt m c t) (upAt m c t) (ix2 r j) * tap 2 inb_S3x5632_S1x5632_2_0 w (ix2 0 j))
      = conv (a0 m c) (a1 m c) (a2 m c) (a3 m c) (a4 m c) (bAt t) (rAt t r) := fun z w hz hw => by
    funext j
    unfold conv
    rw [e2, e1, e0, tap_apply 0 _ (by decide), tap_apply 1 _ (by decide), tap_apply 2 _ (by decide), hw, hw, hw, hz]
    rfl
  rw [hc _ _ (blk4 m c t) (blk3 m c t)]
  rfl

theorem flushed_eq (c : Dev nD) (t : Fin cfg0.N) :
    (dats m 0 c).flushed 7 t = ((cfg0.win 7).blk t).view.read (Elt Ideal) (G m c) := by
  show (dats m 0 c).after 7 t = _
  rw [after7]
  funext y
  obtain ⟨z, r, j, rfl⟩ : ∃ (z : Fin 1) (r : Fin 512) (j : Fin 1024), y = ix3 z r j := ⟨_, _, _, ValueIdx.eq_ix3 y⟩
  obtain rfl : z = 0 := Subsingleton.elim _ _
  refine (row_eq m c t r j).trans ?_
  generalize G m c = g
  blk_ext! [idx t]

theorem cover (i : S2x8192x1024.Idx) :
    ∃ t : Fin cfg0.N, (cfg0.win 7).flush t = true ∧ i ∈ ((cfg0.win 7).blk t).view.set := by
  have h0 : (i 0 : Nat) < 2 := (i 0).isLt
  have h1 : (i 1 : Nat) < 8192 := (i 1).isLt
  have h2 : (i 2 : Nat) < 1024 := (i 2).isLt
  have hN : cfg0.N = 32 := N_0
  refine ⟨⟨(i 0 : Nat) * 16 + (i 1 : Nat) / 512, by omega⟩, flush0_7 _, ?_⟩
  mem_blk [idx]
  simp
  omega

theorem final (c : Dev nD) : (dats m 0 c).arrAt 7 cfg0.N = G m c :=
  (dats m 0 c).arrAt_eq_of_cover 7 (G m c) (fun t _ => flushed_eq m c t) cover

/-- With real weights in the gate's columns the result is the reference's. -/
theorem G_eq (c : Dev nD) (h1 : ∀ k, ∃ r : ℝ, a1 m c (ix2 0 k) = (r : EReal)) (h2 : ∀ k (j : Fin 2816), ∃ r : ℝ, a2 m c (ix2 k ⟨j.val, by omega⟩) = (r : EReal))
    (h3 : ∀ t (j : Fin 2816), ∃ r : ℝ, a3 m c (ix2 t ⟨j.val, by omega⟩) = (r : EReal)) (h4 : ∀ j : Fin 2816, ∃ r : ℝ, a4 m c (ix2 0 ⟨j.val, by omega⟩) = (r : EReal)) :
    G m c = Cert.FfnRefIdeal.Read.val_main_v63 (F := Ideal) (a0 m c) (a1 m c) (a2 m c) (a3 m c) (a4 m c) (a5 m c) (a6 m c) := by
  funext i
  obtain ⟨b, s, d, rfl⟩ : ∃ (b : Fin 2) (s : Fin 8192) (d : Fin 1024), i = ix3 b s d := ⟨_, _, _, ValueIdx.eq_ix3 i⟩
  rw [Cert.FfnRefIdeal.Hand.out_apply]
  unfold G
  have hg : gated gateT (conv (a0 m c) (a1 m c) (a2 m c) (a3 m c) (a4 m c) b s) = gated gateE (conv (a0 m c) (a1 m c) (a2 m c) (a3 m c) (a4 m c) b s) := by
    funext j
    obtain ⟨r, hr⟩ := conv_real (a0 m c) (a1 m c) (a2 m c) (a3 m c) (a4 m c) h1 h2 h3 h4 b s j
    unfold gated
    rw [hr, gate_eq]
  show rowOut _ (gated gateT (conv (a0 m c) (a1 m c) (a2 m c) (a3 m c) (a4 m c) b s)) _ _ d = _
  rw [hg]
  rfl

end Cert.FfnIdeal.Hand
end
-- ==== Proof.FfnClaims.lean ====
/-
  The claims about the gated feed-forward layer with its causal convolution and the last normalisation.
-/
module

public import proofs.«01_k».proof.Defs
public import proofs.«01_k».proof.Proof.FfnVal
public import proofs.«01_k».proof.Proof.FfnData
public import proofs.«01_k».proof.Proof.MergeClaims
public import proofs.«01_k».proof.Proof.Gen.FfnRefIdeal.Run
public import Idealize.ShloMosaic.Lib.Quiescent

@[expose] public section
noncomputable section
open Idealize.ShloMosaic Idealize.ShloMosaic.TcCoe Idealize.SL.Sem
namespace Cert.Proof.FfnClaims
open Idealize.ShloMosaic.Pointwise Cert.Proof.MergeClaims Cert.FfnIdeal.Hand

theorem ofBits_inf32 : Ideal.ofBits FTy.f32 0x7F800000#32 = (⊤ : EReal) := by
  simp [Ideal.ofBits, Ideal.ieee, -EReal.coe_mul]

/-- The precondition, read: the weights of the gate's columns are reals. -/
theorem pre_real (m : (ℓ : Loc Cert.FfnIdeal.nD Cert.FfnIdeal.τ Cert.FfnIdeal.sig) → Buf (Elt Ideal) ℓ)
    [Cert.Pre_finite_gate.Facts] (h : Cert.Pre_FfnIdeal_finite_gate m) (c : Dev Cert.FfnIdeal.nD) :
    (∀ k, ∃ r : ℝ, a1 m c (ix2 0 k) = (r : EReal)) ∧ (∀ k (j : Fin 2816), ∃ r : ℝ, a2 m c (ix2 k ⟨j.val, by omega⟩) = (r : EReal))
    ∧ (∀ t (j : Fin 2816), ∃ r : ℝ, a3 m c (ix2 t ⟨j.val, by omega⟩) = (r : EReal))
    ∧ (∀ j : Fin 2816, ∃ r : ℝ, a4 m c (ix2 0 ⟨j.val, by omega⟩) = (r : EReal)) := by
  obtain ⟨h1, h2, h3, h4⟩ := h c
  change (Cert.Pre_finite_gate.fn (F := Ideal) (a0 m c) (a1 m c) (a2 m c) (a3 m c) (a4 m c) (a5 m c) (a6 m c)).1 = _ at h1
  change (Cert.Pre_finite_gate.fn (F := Ideal) (a0 m c) (a1 m c) (a2 m c) (a3 m c) (a4 m c) (a5 m c) (a6 m c)).2.1 = _ at h2
  change (Cert.Pre_finite_gate.fn (F := Ideal) (a0 m c) (a1 m c) (a2 m c) (a3 m c) (a4 m c) (a5 m c) (a6 m c)).2.2.1 = _ at h3
  change (Cert.Pre_finite_gate.fn (F := Ideal) (a0 m c) (a1 m c) (a2 m c) (a3 m c) (a4 m c) (a5 m c) (a6 m c)).2.2.2 = _ at h4
  generalize a0 m c = y0 at *
  generalize a1 m c = y1 at *
  generalize a2 m c = y2 at *
  generalize a3 m c = y3 at *
  generalize a4 m c = y4 at *
  generalize a5 m c = y5 at *
  generalize a6 m c = y6 at *
  refine ⟨fun k => ?_, fun k j => ?_, fun t j => ?_, fun j => ?_⟩
  · have := congrFun h1 (ix2 0 k)
    pointwise [Cert.Pre_finite_gate.fn] at this
    rw [ofBits_inf32] at this
    exact real_of_abs_lt _ (lt_of_cmp _ _ this)
  · have := congrFun h2 (ix2 k j)
    pointwise [Cert.Pre_finite_gate.fn] at this
    rw [ofBits_inf32] at this
    exact real_of_abs_lt _ (lt_of_cmp _ _ this)
  · have := congrFun h3 (ix2 t j)
    pointwise [Cert.Pre_finite_gate.fn] at this
    rw [ofBits_inf32] at this
    exact real_of_abs_lt _ (lt_of_cmp _ _ this)
  · have := congrFun h4 (ix2 0 j)
    pointwise [Cert.Pre_finite_gate.fn] at this
    rw [ofBits_inf32] at this
    exact real_of_abs_lt _ (lt_of_cmp _ _ this)

theorem frame_p : Cert.quiescent_Ffn := fun m ρ _ => Cert.Ffn.Hand.run_all m ρ
theorem frame_pi : Cert.quiescent_FfnIdeal := fun m ρ _ => Cert.FfnIdeal.Hand.run_all m ρ
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

theorem preserves : Cert.preserves_Ffn_FfnIdeal := trivial

theorem algebraic [Cert.Pre_finite_gate.Facts] : Cert.algebraic_FfnIdeal_FfnRefIdeal_pre_finite_gate := by
  intro m ρ m' ρ' hpre hagree
  refine ⟨fun c => G m c, ?_, ?_⟩
  · refine (θ_run Cert.FfnIdeal.defs _ _).mono (fun r h c => ⟨?_, h.2.1 c⟩)
      (θ_run_and (run_quiescent (F := Ideal) m ρ) (run_all (F := Ideal) m ρ))
    exact ((h.1.1 c).1 7).trans (final m c)
  · refine (θ_run Cert.FfnRefIdeal.defs _ _).mono (fun _ h c => ⟨(h c).1.trans ?_, (h c).2⟩)
      (Cert.FfnRefIdeal.Value.run (F := Ideal) m' ρ')
    rw [Cert.FfnRefIdeal.Read.val_main_v63_eq]
    obtain ⟨h1, h2, h3, h4⟩ := pre_real m hpre c
    refine Eq.trans ?_ (G_eq m c h1 h2 h3 h4).symm
    obtain ⟨e0, e1, e2, e3, e4, e5, e6⟩ := hagree c
    show _ = Cert.FfnRefIdeal.Read.val_main_v63 (F := Ideal) _ _ _ _ _ _ _
    rw [e0, e1, e2, e3, e4, e5, e6]

end Cert.Proof.FfnClaims
end
-- ==== Proof.InProjIdealKit.lean ====
/-
  The input projection's call up to its pipeline: the table of output tiles that the program stores first, what it holds, and the
  pipeline at that table.
-/
module

public import proofs.«01_k».proof.Proof.Gen.InProjIdeal.Launch
public import proofs.«01_k».proof.Proof.Gen.InProjIdeal.Skeleton
public import Idealize.ShloMosaic.Lib.Pipeline.FrameBody
public import Idealize.ShloMosaic.Lib.Tactic
public import Idealize.ShloMosaic.Lib.WordCmp
public import Idealize.ShloMosaic.Lib.Pipeline.Kit

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## Up to the pipeline -/

/-- What core `c`'s buffer `b` holds when the pipeline starts. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The one operation before the pipeline writes the table and nothing else. -/
theorem V_other (c : Dev nD) (b : Ref sig .tc) (hb : b ≠ main_c) : V m c b = m ((c : Thread nD τ).loc b) :=
  StableHlo.after_of_forall_not_mem (b := Proc.devRef .tc b) _ _ (List.forall_iff_forall_mem.mp (by
    simp only [hostOps0, List.Forall, StableHlo.nullary_writes, Finset.mem_singleton]
    exact StableHlo.devRef_ne_of_ne hb))

/-! ## The table -/

/-- The output tile that column tile `j` of the product goes to. -/
def tile : Fin 12 → Nat := ![8, 9, 10, 6, 7, 0, 1, 2, 11, 3, 4, 5]

/-- The table's contents. -/
def tbl : pre0.Contents (Elt F) := fun
  | 0 => fun i => lit0 (S12.rowMajor i)
  | ⟨_ + 1, h⟩ => absurd h (Nat.not_lt.2 (Nat.le_add_left _ _))

theorem V_table (c : Dev nD) (j : Fin 1) : V m c (pre0.ref j) = tbl (F := F) j := by
  obtain rfl : j = 0 := Subsingleton.elim _ _
  show StableHlo.after hostOps0 (fun b => m (c, b)) main_c = _
  after_results
  rfl

theorem lit_tile : ∀ j : Fin 12, (lit0 j).toNat = tile j := by decide

theorem map4 (i : grid0.Coords) :
    cc0_transform_4 k0_off1_inb numel1_S1 (tbl (F := F)) i = ![(i 0).val, tile (i 1)] := by
  have h0 : (i 0).val < 8 := (i 0).isLt
  have h1 : (i 1).val < 12 := (i 1).isLt
  unfold cc0_transform_4
  funext a
  fin_cases a
  · show (BitVec.ofNat 32 (i 0).val).toNat = (i 0).val
    rw [BitVec.toNat_ofNat]; omega
  · show (lit0 (S12.rowMajor _)).toNat = tile (i 1)
    refine (lit_tile _).trans (congrArg tile (Fin.ext ?_))
    have e : ∀ x : S12.Idx, (S12.rowMajor x).val = (x 0).val := fun x => by
      refine (Shape.rowMajorPi_succ_val ![12] x).trans ?_
      have e1 : (∏ a : Fin 0, ![12] a.succ) = 1 := rfl
      have h := (Shape.rowMajorPi (fun a : Fin 0 => ![12] a.succ) (fun a => x a.succ)).isLt.trans_eq e1
      exact (congrArg₂ (· + ·) (congrArg ((x 0).val * ·) e1) (Nat.lt_one_iff.mp h)).trans (Nat.mul_one _)
    refine (e _).trans ?_
    show (Scalar.indexCast (BitVec.ofNat 32 (i 1).val)).toNat + 1 * 0 = (i 1).val
    simp [Scalar.indexCast]
    omega

theorem okay : ok0 (tbl (F := F)) := fun i => by
  have h0 : (i 0).val < 8 := (i 0).isLt
  have hb : tile (i 1) < 12 := (by decide : ∀ j : Fin 12, tile j < 12) (i 1)
  have hin : ∀ a, (cc0_transform_4 k0_off1_inb numel1_S1 (tbl (F := F)) i a + 1) * S2048x1024.size a ≤ S16384x12288.size a := by
    rw [map4]
    intro a
    fin_cases a
    · show ((i 0).val + 1) * 2048 ≤ 16384; omega
    · show (tile (i 1) + 1) * 1024 ≤ 12288; omega
  exact ⟨hin, .inr (Affine.block_words_dvd (of_decide_eq_true rfl) (by decide))⟩

/-- The table as contents the pipeline admits. -/
abbrev adm : (pcfg0 (F := F)).Adm := ⟨tbl, okay⟩
/-- The pipeline at the table. -/
abbrev cfgT : Pipeline.Cfg sig Λ₀ := cfg0 (adm (F := F))

theorem points : (cfgT (F := F)).N = 96 := N_0

/-- Half of the table's buffer, as the pipeline lends it to the body. -/
abbrev lent (c : Dev nD) : sProp 𝕄 := Pipeline.ΦT pre0 (tbl (F := F)) c

/-! ## The windows' blocks -/

/-- Window `w`'s block at point `t` of the array the pipeline finds. -/
def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V m c (Pipeline.arrRef spec0 w))

theorem before0_of {c : Dev nD} (dat : Dat τ (Elt F) Unit ℕ (UR sig nD τ) ℕ (cfgT (F := F)) c) (hA : dat.A 0 = V m c (Pipeline.arrRef spec0 0))
    (hafter : ∀ t, dat.after 0 t = iblk m c 0 t) (t : Fin (cfgT (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgT (F := F)) c) (hA : dat.A 1 = V m c (Pipeline.arrRef spec0 1))
    (hafter : ∀ t, dat.after 1 t = iblk m c 1 t) (t : Fin (cfgT (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgT (F := F)) c) (hA : dat.A 2 = V m c (Pipeline.arrRef spec0 2))
    (hafter : ∀ t, dat.after 2 t = iblk m c 2 t) (t : Fin (cfgT (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgT (F := F)) c) (hA : dat.A 3 = V m c (Pipeline.arrRef spec0 3))
    (hafter : ∀ t, dat.after 3 t = iblk m c 3 t) (t : Fin (cfgT (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The points -/

/-- A row block's first point, where the rows are normalized. -/
theorem first_iff : ∀ t : Fin grid0.N, k0_cond1 (grid0.coords t) = 1#1 ↔ t.val % 12 = 0 := fun t => by
  have ht : t.val < 96 := Nat.lt_of_lt_of_eq t.isLt N_0
  have e1 : (grid0.coords t 1).val = t.val / 1 % 12 := Pipeline.Grid.coords_val t 1 (by decide) rfl
  simp only [k0_cond1, e1]
  word_cmp

/-- Its second point, where the keys' block means are taken. -/
theorem second_iff : ∀ t : Fin grid0.N, k0_cond2 (grid0.coords t) = 1#1 ↔ t.val % 12 = 1 := fun t => by
  have ht : t.val < 96 := Nat.lt_of_lt_of_eq t.isLt N_0
  have e1 : (grid0.coords t 1).val = t.val / 1 % 12 := Pipeline.Grid.coords_val t 1 (by decide) rfl
  simp only [k0_cond2, e1]
  word_cmp

theorem idle5 (t : Fin grid0.N) : idle0 5 (grid0.coords t) = !decide (t.val % 12 = 0) := by
  show (!(k0_cond1 (grid0.coords t) == 1#1)) = _
  congr 1
  exact Bool.eq_iff_iff.mpr (by rw [beq_iff_eq, decide_eq_true_iff]; exact first_iff t)

theorem idle6 (t : Fin grid0.N) : idle0 6 (grid0.coords t) = !decide (t.val % 12 = 1) := by
  show (!(k0_cond2 (grid0.coords t) == 1#1)) = _
  congr 1
  exact Bool.eq_iff_iff.mpr (by rw [beq_iff_eq, decide_eq_true_iff]; exact second_iff t)

theorem sent5 : ∀ t : Fin (cfgT (F := F)).N, ((cfgT (F := F)).win 5).flush t = true ↔ t.val % 12 = 11 :=
  (fun t => Pipeline.Window.flushOf_reads cc0_transform_5 reads0_5 hreads0_5 0 (by decide) (by decide)
    (Pipeline.Window.sep_of_coord cc0_transform_5 0 0 (fun _ => rfl) (by decide)) (P := 12) (m := 11) (by decide) rfl t :
    ∀ t : Fin grid0.N, Pipeline.Window.flushOf grid0 true cc0_transform_5 t = true ↔ t.val % 12 = 11)

theorem sent6 : ∀ t : Fin (cfgT (F := F)).N, ((cfgT (F := F)).win 6).flush t = true ↔ t.val % 12 = 11 :=
  (fun t => Pipeline.Window.flushOf_reads cc0_transform_6 reads0_6 hreads0_6 0 (by decide) (by decide)
    (Pipeline.Window.sep_of_coord cc0_transform_6 0 0 (fun _ => rfl) (by decide)) (P := 12) (m := 11) (by decide) rfl t :
    ∀ t : Fin grid0.N, Pipeline.Window.flushOf grid0 true cc0_transform_6 t = true ↔ t.val % 12 = 11)

/-- Every point sends a block of the product: no two points in a row have the same one. -/
theorem sent4 : ∀ t : Fin (cfgT (F := F)).N, ((cfgT (F := F)).win 4).flush t = true := by
  have h : cc0_transform_4 k0_off1_inb numel1_S1 (tbl (F := F)) = fun i => ![(i 0).val, tile (i 1)] := funext map4
  show ∀ t : Fin grid0.N, Pipeline.Window.flushOf grid0 true (cc0_transform_4 k0_off1_inb numel1_S1 (tbl (F := F))) t = true
  rw [h]
  decide +kernel

/-! ## The buffers the body is handed -/

/-- Window 0's staging buffer at point `t`. -/
abbrev ms0 (t : Fin (cfgT (F := F)).N) : Memref sig .tc .vmem S2048x1024 .f32 := spec0_0.stage ((cfgT (F := F)).slots t 0)
/-- Window 1's staging buffer at point `t`. -/
abbrev ms1 (t : Fin (cfgT (F := F)).N) : Memref sig .tc .vmem S1x1024 .f32 := spec0_1.stage ((cfgT (F := F)).slots t 1)
/-- Window 2's staging buffer at point `t`. -/
abbrev ms2 (t : Fin (cfgT (F := F)).N) : Memref sig .tc .vmem S1024x1024 .bf16 := spec0_2.stage ((cfgT (F := F)).slots t 2)
/-- Window 3's staging buffer at point `t`. -/
abbrev ms3 (t : Fin (cfgT (F := F)).N) : Memref sig .tc .vmem S128x1024 .bf16 := spec0_3.stage ((cfgT (F := F)).slots t 3)
/-- Window 4's staging buffer at point `t`. -/
abbrev ms4 (t : Fin (cfgT (F := F)).N) : Memref sig .tc .vmem S2048x1024 .bf16 := spec0_4.stage ((cfgT (F := F)).slots t 4)
/-- Window 5's staging buffer at point `t`. -/
abbrev ms5 (t : Fin (cfgT (F := F)).N) : Memref sig .tc .vmem S2048x128 .f32 := spec0_5.stage ((cfgT (F := F)).slots t 5)
/-- Window 6's staging buffer at point `t`. -/
abbrev ms6 (t : Fin (cfgT (F := F)).N) : Memref sig .tc .vmem S1x8x1024 .f32 := spec0_6.stage ((cfgT (F := F)).slots t 6)
/-- The scratch. -/
abbrev scr : Memref sig .tc .vmem S2048x1024 .bf16 := Memref.whole cc0_scratch0

theorem kept (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The body at point `t`. -/
abbrev bodyAt (t : Fin (cfgT (F := F)).N) : Prog (TpuEff nD τ sig (Elt F) Λ₀ .tc) PUnit :=
  cc0_in_proj (grid0.coords t) (Memref.whole main_c) (Memref.isWhole_whole _) (spec0_0.stage ((cfgT (F := F)).slots t 0)) (hstage0_0 (((cfgT (F := F)).slots t 0).cast nbuf0_0)) (spec0_1.stage ((cfgT (F := F)).slots t 1)) (hstage0_1 (((cfgT (F := F)).slots t 1).cast nbuf0_1)) (spec0_2.stage ((cfgT (F := F)).slots t 2)) (hstage0_2 (((cfgT (F := F)).slots t 2).cast nbuf0_2)) (spec0_3.stage ((cfgT (F := F)).slots t 3)) (hstage0_3 (((cfgT (F := F)).slots t 3).cast nbuf0_3)) (spec0_4.stage ((cfgT (F := F)).slots t 4)) (hstage0_4 (((cfgT (F := F)).slots t 4).cast nbuf0_4)) (spec0_5.stage ((cfgT (F := F)).slots t 5)) (hstage0_5 (((cfgT (F := F)).slots t 5).cast nbuf0_5)) (spec0_6.stage ((cfgT (F := F)).slots t 6)) (hstage0_6 (((cfgT (F := F)).slots t 6).cast nbuf0_6)) (Memref.whole cc0_scratch0) (Memref.isWhole_whole _)

theorem row (t : Fin (cfgT (F := F)).N) :
    defs₀ (F := F) .tc (cfgT (F := F)).body ((cfgT (F := F)).bodyArgs t ((cfgT (F := F)).slots t)) = bodyAt t := by
  unfold defs₀; rw [Defs.onTc_tc]

/-! ## What stays of the arguments -/

theorem args_of (rdat : (c : Dev nD) → Pipeline.RDat τ (Elt F) Unit ℕ (UR sig nD τ) ℕ ((Pipeline.pin pcfgs fun _ => adm (F := F)) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm (F := F)) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_other m c main_arg0 (by decide))),
      (Pipeline.RDat.FramePost.arr_in h c 1 rfl).trans ((hA c 1).trans (V_other m c main_arg1 (by decide))),
      (Pipeline.RDat.FramePost.arr_in h c 2 rfl).trans ((hA c 2).trans (V_other m c main_arg2 (by decide))),
      (Pipeline.RDat.FramePost.arr_in h c 3 rfl).trans ((hA c 3).trans (V_other m c main_arg3 (by decide)))⟩) h

end Cert.InProjIdeal.Hand

end
-- ==== Proof.InProjIdealRun.lean ====
/-
  One run of the input projection's body, in each of its three cases: what it leaves in the buffers it writes.
-/
module

public import proofs.«01_k».proof.Proof.InProjIdealKit
public import Idealize.ShloMosaic.Lib.VecWindow
public import Idealize.ShloMosaic.Lib.Pointwise

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The block means -/

/-- The mean of row block `r` of a column tile's product. -/
def rowMean (u : Vec F S2048x1024 .bf16) (w : Vec F S1024x1024 .bf16) : Fin 8 → Vec F S1x1x1024 .f32 :=
  ![k0_pay10 (k0_pay4 u w), k0_pay11 (k0_pay4 u w), k0_pay12 (k0_pay4 u w), k0_pay13 (k0_pay4 u w), k0_pay6 (k0_pay14 (k0_pay4 u w)),
    k0_pay7 u w, k0_pay8 u w, k0_pay9 u w]

/-- The eight means, one a row. -/
def means (u : Vec F S2048x1024 .bf16) (w : Vec F S1024x1024 .bf16) : Vec F S1x8x1024 .f32 := fun j =>
  rowMean u w (j 1) (ix3 0 0 (j 2))

theorem put_row (k : Nat) (x : Vec F S1x8x1024 .f32) (b : Vec F S1x1x1024 .f32) (z : Fin 1) (r : Fin 8) (j : Fin 1024) :
    VecWindow.put x ![0, k, 0] S1x1x1024.size b (ix3 z r j) = if r.val = k then b (ix3 0 0 j) else x (ix3 z r j) := by
  have hz : z.val < 1 := z.isLt
  have hj : j.val < 1024 := j.isLt
  unfold VecWindow.put
  by_cases h : r.val = k
  · rw [if_pos h, dif_pos (fun a => by
      fin_cases a
      · show 0 ≤ z.val ∧ z.val < 0 + 1; omega
      · show k ≤ r.val ∧ r.val < k + 1; omega
      · show 0 ≤ j.val ∧ j.val < 0 + 1024; omega)]
    refine congrArg b (funext fun a => ?_)
    fin_cases a <;> refine Fin.ext ?_
    · show z.val - 0 = 0; omega
    · show r.val - k = 0; omega
    · show j.val - 0 = j.val; omega
  · rw [if_neg h, dif_neg (fun hh => by have := hh 1; change k ≤ r.val ∧ r.val < k + 1 at this; omega)]

/-- Eight rows stored one by one make the whole, whatever was there. -/
theorem puts_eq (x : Vec F S1x8x1024 .f32) (u : Vec F S2048x1024 .bf16) (w : Vec F S1024x1024 .bf16) :
    VecWindow.put (VecWindow.put (VecWindow.put (VecWindow.put (VecWindow.put (VecWindow.put (VecWindow.put (VecWindow.put x
      ![0, 0, 0] S1x1x1024.size (k0_pay10 (k0_pay4 u w))) ![0, 1, 0] S1x1x1024.size (k0_pay11 (k0_pay4 u w)))
      ![0, 2, 0] S1x1x1024.size (k0_pay12 (k0_pay4 u w))) ![0, 3, 0] S1x1x1024.size (k0_pay13 (k0_pay4 u w)))
      ![0, 4, 0] S1x1x1024.size (k0_pay6 (k0_pay14 (k0_pay4 u w)))) ![0, 5, 0] S1x1x1024.size (k0_pay7 u w))
      ![0, 6, 0] S1x1x1024.size (k0_pay8 u w)) ![0, 7, 0] S1x1x1024.size (k0_pay9 u w) = means u w := by
  funext i
  obtain ⟨z, r, j, rfl⟩ : ∃ (z : Fin 1) (r : Fin 8) (j : Fin 1024), i = ix3 z r j := ⟨_, _, _, ValueIdx.eq_ix3 i⟩
  rw [put_row, put_row, put_row, put_row, put_row, put_row, put_row, put_row]
  show _ = rowMean u w r (ix3 0 0 j)
  unfold rowMean
  fin_cases r <;> rfl

/-! ## The runs -/

set_option maxHeartbeats 1000000 in
/-- At a row block's first point the rows are normalized into the scratch, and the time-step columns and one column tile are taken from them. -/
theorem run_first (c : Dev nD) (i : grid0.Coords) (arg2 : Memref sig .tc .smem S12 .i32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S2048x1024 .bf16) (harg7 : arg7.IsWhole) (arg8 : Memref sig .tc .vmem S2048x128 .f32) (harg8 : arg8.IsWhole) (arg9 : Memref sig .tc .vmem S1x8x1024 .f32) (harg9 : arg9.IsWhole) (arg10 : Memref sig .tc .vmem S2048x1024 .bf16) (harg10 : arg10.IsWhole) (hc0 : k0_cond1 i = 1#1) (hc1 : ¬ k0_cond2 i = 1#1)
    (x0 : Vec F S2048x1024 .f32) (x1 : Vec F S1x1024 .f32) (x2 : Vec F S1024x1024 .bf16) (x3 : Vec F S128x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay5 (k0_pay2 x0 x1) x2) ∗ owns (c : Thread nD τ) arg8 fullShare (k0_pay3 x0 x1 x3) ∗ owns (c : Thread nD τ) arg10 fullShare (k0_pay2 x0 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d10, %f10, -, H10⟩, Hk⟩
  obtain rfl := harg3.eq_unread hf3
  obtain rfl := harg4.eq_unread hf4
  obtain rfl := harg5.eq_unread hf5
  obtain rfl := harg6.eq_unread hf6
  have hx3 := (View.readAt_full (Val := Elt F) arg3.view (harg3.unread x0) inb_S2048x1024_S2048x1024_0_0).trans hf3
  have hx4 := (View.readAt_full (Val := Elt F) arg4.view (harg4.unread x1) inb_S1x1024_S1x1024_0_0).trans hf4
  have hx5 := (View.readAt_full (Val := Elt F) arg5.view (harg5.unread x2) inb_S1024x1024_S1024x1024_0_0).trans hf5
  have hx6 := (View.readAt_full (Val := Elt F) arg6.view (harg6.unread x3) inb_S128x1024_S128x1024_0_0).trans hf6
  sl_exec (disch := first | sl_exact hc0 | sl_exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine (View.read_writes_full (s := S2048x1024) arg7.view _ _ _ _).trans ?_
    refine congrArg (fun z => k0_pay5 z x2) ?_
    delta run_first.sl.v3
    unfold View.readCov
    exact (View.readAt_full (Val := Elt F) arg10.view _ inb_S2048x1024_S2048x1024_0_0).trans (View.read_writes_full (s := S2048x1024) arg10.view _ _ _ _)
  isplitl [H8]
  · iexists _; isplitr; swap; · iexact H8
    ipureintro
    exact (View.read_writes_full (s := S2048x128) arg8.view _ _ _ _).trans rfl
  iexists _; isplitr; swap; · iexact H10
  ipureintro
  exact (View.read_writes_full (s := S2048x1024) arg10.view _ _ _ _).trans rfl

set_option maxHeartbeats 1000000 in
/-- At its second point one column tile is taken from the scratch's rows, and its means over blocks of 256 rows. -/
theorem run_second (c : Dev nD) (i : grid0.Coords) (arg2 : Memref sig .tc .smem S12 .i32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S2048x1024 .bf16) (harg7 : arg7.IsWhole) (arg8 : Memref sig .tc .vmem S2048x128 .f32) (harg8 : arg8.IsWhole) (arg9 : Memref sig .tc .vmem S1x8x1024 .f32) (harg9 : arg9.IsWhole) (arg10 : Memref sig .tc .vmem S2048x1024 .bf16) (harg10 : arg10.IsWhole) (hc0 : ¬ k0_cond1 i = 1#1) (hc1 : k0_cond2 i = 1#1)
    (x2 : Vec F S1024x1024 .bf16) (e : Vec F S2048x1024 .bf16) (E : Set ℕ) (K : PUnit → sProp 𝕄) :
    iprop(owns (c : Thread nD τ) arg5 fullShare x2 ∗ owns (c : Thread nD τ) arg10 fullShare e ∗ (∃ d, owns (c : Thread nD τ) arg7 fullShare d) ∗ (∃ d, owns (c : Thread nD τ) arg9 fullShare d)
        ∗ (iprop(owns (c : Thread nD τ) arg5 fullShare x2 ∗ owns (c : Thread nD τ) arg7 fullShare (k0_pay5 e x2) ∗ owns (c : Thread nD τ) arg9 fullShare (means e x2) ∗ owns (c : Thread nD τ) arg10 fullShare e) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton]
  unfold owns
  iintro ⟨⟨%f5, %hf5, H5⟩, ⟨%f10, %hf10, H10⟩, ⟨%d7, %f7, -, H7⟩, ⟨%d9, %f9, -, H9⟩, Hk⟩
  obtain rfl := harg5.eq_unread hf5
  obtain rfl := harg10.eq_unread hf10
  have hx5 := (View.readAt_full (Val := Elt F) arg5.view (harg5.unread x2) inb_S1024x1024_S1024x1024_0_0).trans hf5
  have hx10 := (View.readAt_full (Val := Elt F) arg10.view (harg10.unread e) inb_S2048x1024_S2048x1024_0_0).trans hf10
  sl_exec (disch := first | sl_exact hc0 | sl_exact hc1)
  sl_step
  iapply Hk
  isplitl [H5]
  · iexists _; isplitr; · ipureintro; exact harg5.read_unread _
    iexact H5
  isplitl [H7]
  · iexists _; isplitr; swap; · iexact H7
    ipureintro
    exact (View.read_writes_full (s := S2048x1024) arg7.view _ _ _ _).trans rfl
  isplitl [H9]
  · iexists _; isplitr; swap; · iexact H9
    ipureintro
    delta run_second.sl.r
    rw [View.read_writes_cons_put arg9.view _ inb_S1x8x1024_S1x1x1024_0_7_0 _ _ rfl]
    rw [View.read_writes_cons_put arg9.view _ inb_S1x8x1024_S1x1x1024_0_6_0 _ _ rfl]
    rw [View.read_writes_cons_put arg9.view _ inb_S1x8x1024_S1x1x1024_0_5_0 _ _ rfl]
    rw [View.read_writes_cons_put arg9.view _ inb_S1x8x1024_S1x1x1024_0_4_0 _ _ rfl]
    rw [View.read_writes_cons_put arg9.view _ inb_S1x8x1024_S1x1x1024_0_3_0 _ _ rfl]
    rw [View.read_writes_cons_put arg9.view _ inb_S1x8x1024_S1x1x1024_0_2_0 _ _ rfl]
    rw [View.read_writes_cons_put arg9.view _ inb_S1x8x1024_S1x1x1024_0_1_0 _ _ rfl]
    rw [View.read_writes_cons_put arg9.view _ inb_S1x8x1024_S1x1x1024_0_0_0 _ _ rfl]
    exact puts_eq _ e x2
  iexists _; isplitr; · ipureintro; exact harg10.read_unread _
  iexact H10

set_option maxHeartbeats 1000000 in
/-- At its other points one column tile is taken from the scratch's rows. -/
theorem run_later (c : Dev nD) (i : grid0.Coords) (arg2 : Memref sig .tc .smem S12 .i32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S2048x1024 .bf16) (harg7 : arg7.IsWhole) (arg8 : Memref sig .tc .vmem S2048x128 .f32) (harg8 : arg8.IsWhole) (arg9 : Memref sig .tc .vmem S1x8x1024 .f32) (harg9 : arg9.IsWhole) (arg10 : Memref sig .tc .vmem S2048x1024 .bf16) (harg10 : arg10.IsWhole) (hc0 : ¬ k0_cond1 i = 1#1) (hc1 : ¬ k0_cond2 i = 1#1)
    (x2 : Vec F S1024x1024 .bf16) (e : Vec F S2048x1024 .bf16) (E : Set ℕ) (K : PUnit → sProp 𝕄) :
    iprop(owns (c : Thread nD τ) arg5 fullShare x2 ∗ owns (c : Thread nD τ) arg10 fullShare e ∗ (∃ d, owns (c : Thread nD τ) arg7 fullShare d)
        ∗ (iprop(owns (c : Thread nD τ) arg5 fullShare x2 ∗ owns (c : Thread nD τ) arg7 fullShare (k0_pay5 e x2) ∗ owns (c : Thread nD τ) arg10 fullShare e) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton]
  unfold owns
  iintro ⟨⟨%f5, %hf5, H5⟩, ⟨%f10, %hf10, H10⟩, ⟨%d7, %f7, -, H7⟩, Hk⟩
  obtain rfl := harg5.eq_unread hf5
  obtain rfl := harg10.eq_unread hf10
  have hx5 := (View.readAt_full (Val := Elt F) arg5.view (harg5.unread x2) inb_S1024x1024_S1024x1024_0_0).trans hf5
  have hx10 := (View.readAt_full (Val := Elt F) arg10.view (harg10.unread e) inb_S2048x1024_S2048x1024_0_0).trans hf10
  sl_exec (disch := first | sl_exact hc0 | sl_exact hc1)
  sl_step
  iapply Hk
  isplitl [H5]
  · iexists _; isplitr; · ipureintro; exact harg5.read_unread _
    iexact H5
  isplitl [H7]
  · iexists _; isplitr; swap; · iexact H7
    ipureintro
    exact (View.read_writes_full (s := S2048x1024) arg7.view _ _ _ _).trans rfl
  iexists _; isplitr; · ipureintro; exact harg10.read_unread _
  iexact H10

end Cert.InProjIdeal.Hand

end
-- ==== Proof.InProjIdealData.lean ====
/-
  The input projection's pipeline: what each buffer holds point by point (the scratch the row block's normalized rows, the time-step
  and mean blocks what the row block's first and second point left), the body's obligation, the run of the whole call and its frame.
-/
module

public import proofs.«01_k».proof.Defs
public import proofs.«01_k».proof.Proof.InProjIdealRun
public import Idealize.ShloMosaic.Lib.Claim

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The first and the second point of the row block that point number `n` is in. -/
def head (n : Nat) : Fin (cfgT (F := F)).N := ⟨n / 12 * 12 % 96, by have := points (F := F); omega⟩
def next (n : Nat) : Fin (cfgT (F := F)).N := ⟨(n / 12 * 12 + 1) % 96, by have := points (F := F); omega⟩

/-- The row block's normalized rows. -/
def rowsAt (c : Dev nD) (n : Nat) : Vec F S2048x1024 .bf16 := k0_pay2 (iblk m c 0 (head n)) (iblk m c 1 (head n))
/-- The point's block of the product. -/
def projAt (c : Dev nD) (t : Fin (cfgT (F := F)).N) : Vec F S2048x1024 .bf16 := k0_pay5 (rowsAt m c t.val) (iblk m c 2 t)
/-- The row block's time-step columns. -/
def stepAt (c : Dev nD) (n : Nat) : Vec F S2048x128 .f32 := k0_pay3 (iblk m c 0 (head n)) (iblk m c 1 (head n)) (iblk m c 3 (head n))
/-- The row block's means. -/
def meansAt (c : Dev nD) (n : Nat) : Vec F S1x8x1024 .f32 := means (rowsAt m c n) (iblk m c 2 (next n))

theorem head_of (t : Fin (cfgT (F := F)).N) (h : t.val % 12 = 0) : head (F := F) t.val = t := by
  have := t.isLt; have := points (F := F)
  refine Fin.ext ?_; show t.val / 12 * 12 % 96 = t.val; omega
theorem next_of (t : Fin (cfgT (F := F)).N) (h : t.val % 12 = 1) : next (F := F) t.val = t := by
  have := t.isLt; have := points (F := F)
  refine Fin.ext ?_; show (t.val / 12 * 12 + 1) % 96 = t.val; omega
theorem head_same {n k : Nat} (h : n / 12 = k / 12) : head (F := F) n = head k := by unfold head; simp only [h]
theorem next_same {n k : Nat} (h : n / 12 = k / 12) : next (F := F) n = next k := by unfold next; simp only [h]
theorem rowsAt_same (c : Dev nD) {n k : Nat} (h : n / 12 = k / 12) : rowsAt m c n = rowsAt m c k := by
  unfold rowsAt; rw [head_same h]
theorem stepAt_same (c : Dev nD) {n k : Nat} (h : n / 12 = k / 12) : stepAt m c n = stepAt m c k := by
  unfold stepAt; rw [head_same h]
theorem meansAt_same (c : Dev nD) {n k : Nat} (h : n / 12 = k / 12) : meansAt m c n = meansAt m c k := by
  unfold meansAt; rw [next_same h, rowsAt_same m c h]

/-- What the body carries from point to point: the scratch, known but at a row block's start, the generator's register and the table. -/
def carried (c : Dev nD) (t : Fin ((cfgT (F := F)).N + 1)) : sProp 𝕄 :=
  iprop(((∃ d, ⌜t.val % 12 ≠ 0 → d = rowsAt m c t.val⌝ ∗ owns (c : Thread nD τ) scr fullShare d) ∗ (∃ r, prngReg c r)) ∗ lent c)

def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => projAt m c t
    | ⟨5, _⟩ => stepAt m c t.val
    | ⟨6, _⟩ => meansAt m c t.val
  Φ t := carried m c t
  q _ := fullShare
  owed _ := 0

theorem A_eq (c : Dev nD) (w : Fin (cfgT (F := F)).W) : (dats m 0 c).A w = V m c (Pipeline.arrRef spec0 w) := by dsimp only [dats]
theorem after0 (c : Dev nD) (t : Fin (cfgT (F := F)).N) : (dats m 0 c).after 0 t = iblk m c 0 t := by dsimp only [dats]; try rfl
theorem after1 (c : Dev nD) (t : Fin (cfgT (F := F)).N) : (dats m 0 c).after 1 t = iblk m c 1 t := by dsimp only [dats]; try rfl
theorem after2 (c : Dev nD) (t : Fin (cfgT (F := F)).N) : (dats m 0 c).after 2 t = iblk m c 2 t := by dsimp only [dats]; try rfl
theorem after3 (c : Dev nD) (t : Fin (cfgT (F := F)).N) : (dats m 0 c).after 3 t = iblk m c 3 t := by dsimp only [dats]; try rfl
theorem after4 (c : Dev nD) (t : Fin (cfgT (F := F)).N) : (dats m 0 c).after 4 t = projAt m c t := by dsimp only [dats]; try rfl
theorem after5 (c : Dev nD) (t : Fin (cfgT (F := F)).N) : (dats m 0 c).after 5 t = stepAt m c t.val := by dsimp only [dats]; try rfl
theorem after6 (c : Dev nD) (t : Fin (cfgT (F := F)).N) : (dats m 0 c).after 6 t = meansAt m c t.val := by dsimp only [dats]; try rfl
theorem before0 (c : Dev nD) (t : Fin (cfgT (F := F)).N) (d) : (dats m 0 c).before 0 t d = iblk m c 0 t :=
  before0_of m (dats m 0 c) (A_eq m c 0) (after0 m c) t d
theorem before1 (c : Dev nD) (t : Fin (cfgT (F := F)).N) (d) : (dats m 0 c).before 1 t d = iblk m c 1 t :=
  before1_of m (dats m 0 c) (A_eq m c 1) (after1 m c) t d
theorem before2 (c : Dev nD) (t : Fin (cfgT (F := F)).N) (d) : (dats m 0 c).before 2 t d = iblk m c 2 t :=
  before2_of m (dats m 0 c) (A_eq m c 2) (after2 m c) t d
theorem before3 (c : Dev nD) (t : Fin (cfgT (F := F)).N) (d) : (dats m 0 c).before 3 t d = iblk m c 3 t :=
  before3_of m (dats m 0 c) (A_eq m c 3) (after3 m c) t d

/-! ## The two buffers that are written once a row block -/

theorem left5_live (c : Dev nD) (t : Fin (cfgT (F := F)).N) (h : t.val % 12 = 0) (d) : (dats m 0 c).left 5 t d = stepAt m c t.val := by
  have hi : (cfgT (F := F)).idle 5 ((cfgT (F := F)).grid.coords t) = false := (idle5 t).trans (by rw [decide_eq_true h]; rfl)
  unfold Dat.left
  rw [hi]
  exact after5 m c t

theorem left5_idle (c : Dev nD) (t : Fin (cfgT (F := F)).N) (h : t.val % 12 ≠ 0) (d) : (dats m 0 c).left 5 t d = (dats m 0 c).before 5 t d := by
  have hi : (cfgT (F := F)).idle 5 ((cfgT (F := F)).grid.coords t) = true := (idle5 t).trans (by rw [decide_eq_false h]; rfl)
  unfold Dat.left
  rw [hi]

theorem before5 (c : Dev nD) : ∀ (n : Nat) (t : Fin (cfgT (F := F)).N), t.val = n → t.val % 12 ≠ 0 → ∀ d, (dats m 0 c).before 5 t d = stepAt m c t.val := by
  intro n
  induction n with
  | zero => intro t hn h d; rw [hn] at h; exact absurd h (by decide)
  | succ n ih =>
    intro t hn h d
    have hp : n < (cfgT (F := F)).N := by have := t.isLt; omega
    rw [(dats m 0 c).before_of_pos 5 t (by omega) ((((cfgT (F := F)).win 5).fetch_out rfl) t) d]
    have he : (⟨t.val - 1, Nat.lt_of_le_of_lt (Nat.sub_le _ _) t.isLt⟩ : Fin (cfgT (F := F)).N) = ⟨n, hp⟩ := Fin.ext (by show t.val - 1 = n; omega)
    rw [he]
    rw [if_neg (fun hf => by have := (sent5 (F := F) ⟨n, hp⟩).mp hf; change n % 12 = 11 at this; omega)]
    have hs : stepAt m c t.val = stepAt m c n := stepAt_same m c (by omega)
    rw [hs]
    by_cases h0 : n % 12 = 0
    · exact left5_live m c ⟨n, hp⟩ h0 d
    · rw [left5_idle m c ⟨n, hp⟩ h0 d]
      exact ih ⟨n, hp⟩ rfl (by show n % 12 ≠ 0; omega) d

theorem leave5 (c : Dev nD) (t : Fin (cfgT (F := F)).N) (h : t.val % 12 ≠ 0) :
    iprop(∃ d, owns (c : Thread nD τ) (ms5 t) fullShare ((dats m 0 c).before 5 t d)) ⊢ (dats m 0 c).leavesExact 5 t := by
  have hi : (cfgT (F := F)).idle 5 ((cfgT (F := F)).grid.coords t) = true := (idle5 t).trans (by rw [decide_eq_false h]; rfl)
  by_cases hf : ((cfgT (F := F)).win 5).flush t = true
  · have hb : ∀ d, (dats m 0 c).before 5 t d = stepAt m c t.val :=
      before5 m c t.val t rfl (by have := (sent5 (F := F) t).mp hf; omega)
    unfold Dat.leavesExact
    rw [hi, hf]
    simp only [hb, after5]
    iintro ⟨%d, H⟩; iexact H
  · rw [(dats m 0 c).leavesExact_idle 5 t hi (by simpa using hf)]
    exact .rfl

theorem left5 (c : Dev nD) (t : Fin (cfgT (F := F)).N) (h : t.val % 12 = 0) :
    (dats m 0 c).leavesExact 5 t = owns (c : Thread nD τ) (ms5 t) fullShare (stepAt m c t.val) := by
  have hi : (cfgT (F := F)).idle 5 ((cfgT (F := F)).grid.coords t) = false := (idle5 t).trans (by rw [decide_eq_true h]; rfl)
  unfold Dat.leavesExact
  rw [hi, after5]
  rfl

theorem left6_live (c : Dev nD) (t : Fin (cfgT (F := F)).N) (h : t.val % 12 = 1) (d) : (dats m 0 c).left 6 t d = meansAt m c t.val := by
  have hi : (cfgT (F := F)).idle 6 ((cfgT (F := F)).grid.coords t) = false := (idle6 t).trans (by rw [decide_eq_true h]; rfl)
  unfold Dat.left
  rw [hi]
  exact after6 m c t

theorem left6_idle (c : Dev nD) (t : Fin (cfgT (F := F)).N) (h : t.val % 12 ≠ 1) (d) : (dats m 0 c).left 6 t d = (dats m 0 c).before 6 t d := by
  have hi : (cfgT (F := F)).idle 6 ((cfgT (F := F)).grid.coords t) = true := (idle6 t).trans (by rw [decide_eq_false h]; rfl)
  unfold Dat.left
  rw [hi]

theorem before6 (c : Dev nD) : ∀ (n : Nat) (t : Fin (cfgT (F := F)).N), t.val = n → 2 ≤ t.val % 12 → ∀ d, (dats m 0 c).before 6 t d = meansAt m c t.val := by
  intro n
  induction n with
  | zero => intro t hn h d; rw [hn] at h; exact absurd h (by decide)
  | succ n ih =>
    intro t hn h d
    have hp : n < (cfgT (F := F)).N := by have := t.isLt; omega
    rw [(dats m 0 c).before_of_pos 6 t (by omega) ((((cfgT (F := F)).win 6).fetch_out rfl) t) d]
    have he : (⟨t.val - 1, Nat.lt_of_le_of_lt (Nat.sub_le _ _) t.isLt⟩ : Fin (cfgT (F := F)).N) = ⟨n, hp⟩ := Fin.ext (by show t.val - 1 = n; omega)
    rw [he]
    rw [if_neg (fun hf => by have := (sent6 (F := F) ⟨n, hp⟩).mp hf; change n % 12 = 11 at this; omega)]
    have hs : meansAt m c t.val = meansAt m c n := meansAt_same m c (by omega)
    rw [hs]
    by_cases h0 : n % 12 = 1
    · exact left6_live m c ⟨n, hp⟩ h0 d
    · rw [left6_idle m c ⟨n, hp⟩ h0 d]
      exact ih ⟨n, hp⟩ rfl (by show 2 ≤ n % 12; omega) d

theorem leave6 (c : Dev nD) (t : Fin (cfgT (F := F)).N) (h : t.val % 12 ≠ 1) :
    iprop(∃ d, owns (c : Thread nD τ) (ms6 t) fullShare ((dats m 0 c).before 6 t d)) ⊢ (dats m 0 c).leavesExact 6 t := by
  have hi : (cfgT (F := F)).idle 6 ((cfgT (F := F)).grid.coords t) = true := (idle6 t).trans (by rw [decide_eq_false h]; rfl)
  by_cases hf : ((cfgT (F := F)).win 6).flush t = true
  · have hb : ∀ d, (dats m 0 c).before 6 t d = meansAt m c t.val :=
      before6 m c t.val t rfl (by have := (sent6 (F := F) t).mp hf; omega)
    unfold Dat.leavesExact
    rw [hi, hf]
    simp only [hb, after6]
    iintro ⟨%d, H⟩; iexact H
  · rw [(dats m 0 c).leavesExact_idle 6 t hi (by simpa using hf)]
    exact .rfl

theorem left6 (c : Dev nD) (t : Fin (cfgT (F := F)).N) (h : t.val % 12 = 1) :
    (dats m 0 c).leavesExact 6 t = owns (c : Thread nD τ) (ms6 t) fullShare (meansAt m c t.val) := by
  have hi : (cfgT (F := F)).idle 6 ((cfgT (F := F)).grid.coords t) = false := (idle6 t).trans (by rw [decide_eq_true h]; rfl)
  unfold Dat.leavesExact
  rw [hi, after6]
  rfl

theorem left0 (c : Dev nD) (t : Fin (cfgT (F := F)).N) : (dats m 0 c).leavesExact 0 t = owns (c : Thread nD τ) (ms0 t) fullShare (iblk m c 0 t) := by
  unfold Dat.leavesExact
  rw [show (cfgT (F := F)).idle 0 ((cfgT (F := F)).grid.coords t) = false from rfl, after0]
  rfl
theorem left1 (c : Dev nD) (t : Fin (cfgT (F := F)).N) : (dats m 0 c).leavesExact 1 t = owns (c : Thread nD τ) (ms1 t) fullShare (iblk m c 1 t) := by
  unfold Dat.leavesExact
  rw [show (cfgT (F := F)).idle 1 ((cfgT (F := F)).grid.coords t) = false from rfl, after1]
  rfl
theorem left2 (c : Dev nD) (t : Fin (cfgT (F := F)).N) : (dats m 0 c).leavesExact 2 t = owns (c : Thread nD τ) (ms2 t) fullShare (iblk m c 2 t) := by
  unfold Dat.leavesExact
  rw [show (cfgT (F := F)).idle 2 ((cfgT (F := F)).grid.coords t) = false from rfl, after2]
  rfl
theorem left3 (c : Dev nD) (t : Fin (cfgT (F := F)).N) : (dats m 0 c).leavesExact 3 t = owns (c : Thread nD τ) (ms3 t) fullShare (iblk m c 3 t) := by
  unfold Dat.leavesExact
  rw [show (cfgT (F := F)).idle 3 ((cfgT (F := F)).grid.coords t) = false from rfl, after3]
  rfl
theorem left4 (c : Dev nD) (t : Fin (cfgT (F := F)).N) : (dats m 0 c).leavesExact 4 t = owns (c : Thread nD τ) (ms4 t) fullShare (projAt m c t) := by
  unfold Dat.leavesExact
  rw [show (cfgT (F := F)).idle 4 ((cfgT (F := F)).grid.coords t) = false from rfl, after4]
  rfl

/-! ## The body's obligation -/

def bodyPre (c : Dev nD) (t : Fin (cfgT (F := F)).N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)))

def bodyPost (c : Dev nD) (t : Fin (cfgT (F := F)).N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

set_option maxHeartbeats 1600000 in
theorem sound_body (c : Dev nD) (t : Fin (cfgT (F := F)).N) :
    bodyPre m c t ⊢ wp frame (wpE (defs₀ (F := F)) Variants.none c none) Set.univ (bodyAt t) (fun _ => bodyPost m c t) := by
  unfold bodyPre bodyPost bodyAt
  rw [show (dats m 0 c).owesAt () t.succ = (dats m 0 c).owesAt () t.castSucc from rfl,
    show (dats m 0 c).Φ t.castSucc = carried m c t.castSucc from rfl, show (dats m 0 c).Φ t.succ = carried m c t.succ from rfl]
  simp only [before0, before1, before2, before3]
  rw [left0, left1, left2, left3, left4]
  unfold carried
  have hN : t.val < 96 := Nat.lt_of_lt_of_eq t.isLt points
  by_cases h0 : t.val % 12 = 0
  · have eu : k0_pay2 (iblk m c 0 t) (iblk m c 1 t) = rowsAt m c t.val := by unfold rowsAt; rw [head_of t h0]
    have es : k0_pay3 (iblk m c 0 t) (iblk m c 1 t) (iblk m c 3 t) = stepAt m c t.val := by unfold stepAt; rw [head_of t h0]
    rw [left5 m c t h0]
    unfold projAt
    rw [← eu, ← es]
    iintro ⟨⟨⟨⟨%e, %he, HS⟩, Hg⟩, HT⟩, Ho, ⟨%d0, H0⟩, ⟨%d1, H1⟩, ⟨%d2, H2⟩, ⟨%d3, H3⟩, ⟨%d4, H4⟩, H5, H6⟩
    icases H5 with ⟨%d5, H5⟩
    iapply (run_first c (grid0.coords t) _ _ _ _ _ _ _ _ _ _ _ _ _ _ _ _ _ _ ((first_iff t).mpr h0) (fun h => by have := (second_iff t).mp h; omega) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    isplitl [HS Hg HT]
    · isplitl [HS Hg]
      · isplitl [HS]
        · iexists _; isplitr; swap; · iexact HS
          ipureintro; intro hm
          exact eu.trans (rowsAt_same m c (by show t.val / 12 = (t.val + 1) / 12; omega))
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leave6 m c t (by omega)); iexact H6
  · by_cases h1 : t.val % 12 = 1
    · rw [left6 m c t h1]
      unfold projAt meansAt
      rw [next_of t h1]
      iintro ⟨⟨⟨⟨%e, %he, HS⟩, Hg⟩, HT⟩, Ho, ⟨%d0, H0⟩, ⟨%d1, H1⟩, ⟨%d2, H2⟩, ⟨%d3, H3⟩, ⟨%d4, H4⟩, H5, H6⟩
      icases H6 with ⟨%d6, H6⟩
      obtain rfl : e = rowsAt m c t.val := he h0
      iapply (run_second c (grid0.coords t) _ _ _ _ _ _ _ _ _ _ _ _ _ _ _ _ _ _ (fun h => h0 ((first_iff t).mp h)) ((second_iff t).mpr h1) (iblk m c 2 t) (rowsAt m c t.val) Set.univ _)
      isplitl [H2]; · iexact H2
      isplitl [HS]; · iexact HS
      isplitl [H4]; · iexists _; iexact H4
      isplitl [H6]; · iexists _; iexact H6
      iintro ⟨H2, H4, H6, HS⟩
      isplitl [HS Hg HT]
      · isplitl [HS Hg]
        · isplitl [HS]
          · iexists _; isplitr; swap; · iexact HS
            ipureintro; intro hm
            exact rowsAt_same m c (by show t.val / 12 = (t.val + 1) / 12; change (t.val + 1) % 12 ≠ 0 at hm; omega)
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iapply (leave5 m c t h0); iexact H5
      iexact H6
    · unfold projAt
      iintro ⟨⟨⟨⟨%e, %he, HS⟩, Hg⟩, HT⟩, Ho, ⟨%d0, H0⟩, ⟨%d1, H1⟩, ⟨%d2, H2⟩, ⟨%d3, H3⟩, ⟨%d4, H4⟩, H5, H6⟩
      obtain rfl : e = rowsAt m c t.val := he h0
      iapply (run_later c (grid0.coords t) _ _ _ _ _ _ _ _ _ _ _ _ _ _ _ _ _ _ (fun h => h0 ((first_iff t).mp h)) (fun h => h1 ((second_iff t).mp h)) (iblk m c 2 t) (rowsAt m c t.val) Set.univ _)
      isplitl [H2]; · iexact H2
      isplitl [HS]; · iexact HS
      isplitl [H4]; · iexists _; iexact H4
      iintro ⟨H2, H4, HS⟩
      isplitl [HS Hg HT]
      · isplitl [HS Hg]
        · isplitl [HS]
          · iexists _; isplitr; swap; · iexact HS
            ipureintro; intro hm
            exact rowsAt_same m c (by show t.val / 12 = (t.val + 1) / 12; change (t.val + 1) % 12 ≠ 0 at hm; omega)
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iapply (leave5 m c t h0); iexact H5
      iapply (leave6 m c t h1); iexact H6

theorem body_obligation (c : Dev nD) : BodyObligation (dats (F := F) m 0 c) (defs₀ (F := F)) Variants.none () Set.univ := fun t => by
  rw [bigSep_W0, bigSep_W0, row]
  exact Idealize.ShloMosaic.triple_restated (sound_body m c t) rfl .rfl fun _ => .rfl

/-! ## The run -/

theorem carried_start (c : Dev nD) : iprop(Pipeline.ΦA spec0 c ∗ Pipeline.ΦT pre0 (tbl (F := F)) c) ⊢ carried (F := F) m c 0 := by
  rw [kept]; unfold carried
  iintro ⟨⟨⟨%d, HS⟩, Hg⟩, HT⟩
  isplitl [HS Hg]
  · isplitl [HS]
    · iexists d; isplitr; swap; · iexact HS
      ipureintro; intro h; exact absurd rfl h
    iexact Hg
  iexact HT

theorem carried_end (c : Dev nD) : carried (F := F) m c (Fin.last (cfgT (F := F)).N) ⊢ Pipeline.ΦA spec0 c := by
  rw [kept]; unfold carried
  iintro ⟨⟨⟨%d, -, HS⟩, Hg⟩, -⟩
  isplitl [HS]
  · iexists d; iexact HS
  iexact Hg

set_option backward.isDefEq.respectTransparency.types false in
theorem run_quiescent : θ_run defs (onTc (τ := τ) (main (F := F))) (s₀ m ρ)
    (fun r => Pipeline.FramePost (Pipeline.pin pcfgs fun _ => adm (F := F)) (dats m) 0 (V m) r ∧ r.2.sem = fun _ => 0) :=
  Pipeline.θ_run_frameP_track (Q' := _) pcfgs (fun _ => adm (F := F)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_table m)
    (hin := carried_start m) (hout := carried_end m)

/-- Every final state: the arguments are as launched and no counter is raised. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨((h.1 c).1 0).trans (((dats m 0 c).arrAt_in 0 rfl _).trans ((A_eq m c 0).trans (V_other m c main_arg0 (by decide)))),
       ((h.1 c).1 1).trans (((dats m 0 c).arrAt_in 1 rfl _).trans ((A_eq m c 1).trans (V_other m c main_arg1 (by decide)))),
       ((h.1 c).1 2).trans (((dats m 0 c).arrAt_in 2 rfl _).trans ((A_eq m c 2).trans (V_other m c main_arg2 (by decide)))),
       ((h.1 c).1 3).trans (((dats m 0 c).arrAt_in 3 rfl _).trans ((A_eq m c 3).trans (V_other m c main_arg3 (by decide))))⟩, h.2⟩)
    (run_quiescent m ρ)

end Cert.InProjIdeal.Hand

end
-- ==== Proof.InProjKer.lean ====
/-
  What the input projection's payloads hold, entry by entry.
-/
module

public import proofs.«01_k».proof.Defs
public import proofs.«01_k».proof.Proof.InProjIdealRun
public import proofs.«01_k».proof.Proof.FfnMath
public import Idealize.ShloMosaic.Lib.Pointwise

@[expose] public section

noncomputable section
namespace Cert.InProjIdeal.Hand
open Idealize.ShloMosaic Idealize.ShloMosaic.TcCoe Idealize.SL.Sem
open Cert.InProjIdeal Cert.InProjIdeal.Gen Idealize.ShloMosaic.Pointwise Cert.Hand

theorem norm_row (x0 : Vec Ideal S2048x1024 .f32) (x1 : Vec Ideal S1x1024 .f32) (r : Fin 2048) (k : Fin 1024) :
    k0_pay2 x0 x1 (ix2 r k) = x0 (ix2 r k) * rms (fun k' => x0 (ix2 r k')) * x1 (ix2 0 k) := by
  unfold rms
  pointwise [k0_pay2, k0_pay1]

theorem step_entry (x0 : Vec Ideal S2048x1024 .f32) (x1 : Vec Ideal S1x1024 .f32) (x3 : Vec Ideal S128x1024 .bf16) (r : Fin 2048) (j : Fin 128) :
    k0_pay3 x0 x1 x3 (ix2 r j) = ∑ k : Fin 1024, x0 (ix2 r k) * rms (fun k' => x0 (ix2 r k')) * x1 (ix2 0 k) * x3 (ix2 j k) := by
  unfold rms
  pointwise [k0_pay3, k0_pay1]

theorem col_entry (u : Vec Ideal S2048x1024 .bf16) (w : Vec Ideal S1024x1024 .bf16) (r : Fin 2048) (j : Fin 1024) :
    k0_pay5 u w (ix2 r j) = ∑ k : Fin 1024, u (ix2 r k) * w (ix2 j k) := by
  pointwise [k0_pay5, k0_pay4]

theorem sum_entry (u : Vec Ideal S2048x1024 .bf16) (w : Vec Ideal S1024x1024 .bf16) (r : Fin 2048) (j : Fin 1024) :
    k0_pay4 u w (ix2 r j) = ∑ k : Fin 1024, u (ix2 r k) * w (ix2 j k) := by
  pointwise [k0_pay4]

theorem mean_entry (u : Vec Ideal S2048x1024 .bf16) (w : Vec Ideal S1024x1024 .bf16) (z : Fin 1) (r : Fin 8) (j : Fin 1024) :
    means u w (ix3 z r j) = (∑ s : Fin 256, k0_pay4 u w (ix2 ⟨r.val * 256 + s.val, by omega⟩ j)) * Ideal.ofBits FTy.f32 998244352#32 := by
  show rowMean u w r (ix3 0 0 j) = _
  unfold rowMean
  fin_cases r
  · show k0_pay10 (k0_pay4 u w) (ix3 0 0 j) = _
    generalize k0_pay4 u w = y
    pointwise [k0_pay10]
  · show k0_pay11 (k0_pay4 u w) (ix3 0 0 j) = _
    generalize k0_pay4 u w = y
    pointwise [k0_pay11]
  · show k0_pay12 (k0_pay4 u w) (ix3 0 0 j) = _
    generalize k0_pay4 u w = y
    pointwise [k0_pay12]
  · show k0_pay13 (k0_pay4 u w) (ix3 0 0 j) = _
    generalize k0_pay4 u w = y
    pointwise [k0_pay13]
  · show k0_pay6 (k0_pay14 (k0_pay4 u w)) (ix3 0 0 j) = _
    generalize k0_pay4 u w = y
    pointwise [k0_pay14, k0_pay6]
  · show k0_pay7 u w (ix3 0 0 j) = _
    unfold k0_pay7
    generalize k0_pay4 u w = y
    pointwise []
  · show k0_pay8 u w (ix3 0 0 j) = _
    unfold k0_pay8
    generalize k0_pay4 u w = y
    pointwise []
  · show k0_pay9 u w (ix3 0 0 j) = _
    unfold k0_pay9
    generalize k0_pay4 u w = y
    pointwise []

end Cert.InProjIdeal.Hand
end
-- ==== Proof.InProjRefQ.lean ====
/-
  The input projection's reference, read stage by stage: the projected columns in their new order, the time-step columns, and the
  block means of the keys.
-/
module

public import proofs.«01_k».proof.Defs
public import proofs.«01_k».proof.Proof.FfnMath
public import proofs.«01_k».proof.Proof.Gen.InProjRefIdeal.Read
public import Idealize.ShloMosaic.Lib.Pointwise

@[expose] public section
noncomputable section
open Idealize.ShloMosaic Idealize.ShloMosaic.TcCoe Idealize.SL.Sem
namespace Cert.InProjRefIdeal.Hand
open Cert.InProjRefIdeal Cert.InProjRefIdeal.Gen Cert.InProjRefIdeal.Read Idealize.ShloMosaic.Pointwise Cert.Hand

variable (x0 : (⟨S16384x1024, .f32⟩ : BufTy).Contents (Elt Ideal)) (x1 : (⟨S1x1024, .f32⟩ : BufTy).Contents (Elt Ideal))
  (x2 : (⟨S12320x1024, .bf16⟩ : BufTy).Contents (Elt Ideal)) (x3 : (⟨S128x1024, .bf16⟩ : BufTy).Contents (Elt Ideal))

/-- A normalized row's entry. -/
def unit (s : Fin 16384) (k : Fin 1024) : EReal := x0 (ix2 s k) * rms (fun k' => x0 (ix2 s k')) * x1 (ix2 0 k)

/-- Row `s` of the projection, at the weight's row `c`. -/
def proj (s : Fin 16384) (c : Fin 12320) : EReal := ∑ k : Fin 1024, unit x0 x1 s k * x2 (ix2 c k)

/-- Row `s` of the time-step columns. -/
def step (s : Fin 16384) (c : Fin 128) : EReal := ∑ k : Fin 1024, unit x0 x1 s k * x3 (ix2 c k)

/-- The mean of block `r` of batch `b`'s keys, over its 256 rows. -/
def mean (b : Fin 8) (r : Fin 8) (j : Fin 1024) : EReal :=
  (∑ s : Fin 256, proj x0 x1 x2 ⟨b.val * 2048 + r.val * 256 + s.val, by omega⟩ ⟨1024 + j.val, by omega⟩)
    * Ideal.ofBits FTy.f32 998244352#32

/-- The weight's row behind a column of the result. -/
def sourceRow (c : Nat) : Nat :=
  if c < 3072 then 5120 + c
  else if c < 6144 then 9248 + (c - 3072)
  else if c < 8192 then 3072 + (c - 6144)
  else if c < 11264 then c - 8192
  else 8224 + (c - 11264)

def source (c : Fin 12288) : Fin 12320 := ⟨sourceRow c.val, by
  have := c.isLt
  unfold sourceRow
  split_ifs <;> omega⟩

theorem scale_apply (s : Fin 16384) : val_main_v7 (F := Ideal) x0 (ix2 s 0) = rms (fun k => x0 (ix2 s k)) := by
  rw [val_main_v7_apply, val_main_v6_apply, val_main_v4_apply, val_main_v2_apply, val_main_v3_apply, val_main_v5_apply,
    val_main_cst_0_apply, val_main_cst_1_apply, val_main_v1_apply, val_main_cst_apply]
  unfold rms
  have e : ∀ k, idx_main_v1 (idx_main_v2 (ix2 s (0 : Fin 1))) k = ix2 s k := fun k => funext fun a => by fin_cases a <;> rfl
  simp only [val_main_v0_apply, e]
  pointwise []

theorem unit_apply (s : Fin 16384) (k : Fin 1024) : val_main_v13 (F := Ideal) x0 x1 (ix2 s k) = unit x0 x1 s k := by
  unfold unit
  rw [val_main_v13_apply, val_main_v9_apply, val_main_v8_apply, val_main_v12_apply, val_main_v11_apply, val_main_v10_apply,
    ← scale_apply]
  have e : idx_main_v8 (ix2 s k) = ix2 s 0 := funext fun a => by fin_cases a <;> rfl
  have e' : idx_main_v10 (idx_main_v11 (idx_main_v12 (ix2 s k))) = ix2 0 k := funext fun a => by
    fin_cases a <;> refine Fin.ext ?_ <;> simp <;> omega
  rw [e, e']
  rfl

theorem proj_apply (s : Fin 16384) (c : Fin 12320) : val_main_v16 (F := Ideal) x0 x1 x2 (ix2 s c) = proj x0 x1 x2 s c := by
  rw [val_main_v16_apply]
  refine Finset.sum_congr rfl fun k _ => ?_
  rw [← unit_apply, val_main_v15_apply, val_main_v14_apply]
  have e1 : lidx_main_v16 (ix2 s c) k = ix2 s k := funext fun a => by fin_cases a <;> rfl
  have e2 : idx_main_v15 (ridx_main_v16 (ix2 s c) k) = ix2 c k := funext fun a => by fin_cases a <;> rfl
  rw [e1, e2]
  rfl

theorem step_apply (s : Fin 16384) (c : Fin 128) : val_main_v28 (F := Ideal) x0 x1 x3 (ix2 s c) = step x0 x1 x3 s c := by
  rw [val_main_v28_apply]
  refine Finset.sum_congr rfl fun k _ => ?_
  rw [← unit_apply, val_main_v27_apply, val_main_v26_apply]
  have e1 : lidx_main_v28 (ix2 s c) k = ix2 s k := funext fun a => by fin_cases a <;> rfl
  have e2 : idx_main_v27 (ridx_main_v28 (ix2 s c) k) = ix2 c k := funext fun a => by fin_cases a <;> rfl
  rw [e1, e2]
  rfl

theorem cols_apply (s : Fin 16384) (c : Fin 12288) : val_main_v25 (F := Ideal) x0 x1 x2 (ix2 s c) = proj x0 x1 x2 s (source c) := by
  rw [val_main_v25_apply, ← proj_apply]
  unfold val_main_v24 val_main_v17 val_main_v18 val_main_v19 val_main_v20 val_main_v21 val_main_v22 val_main_v23
  generalize val_main_v16 (F := Ideal) x0 x1 x2 = y
  pointwise []
  have pick : ∀ n (hn : n < 12320), n = sourceRow c.val → y (ix2 s ⟨n, hn⟩) = y (ix2 s (source c)) := fun n hn e =>
    congrArg (fun q : Fin 12320 => y (ix2 s q)) (Fin.ext e)
  have := c.isLt
  split_ifs <;> refine pick _ _ ?_ <;> unfold sourceRow <;> split_ifs <;> omega

theorem keys_apply (b : Fin 8) (r : Fin 8) (s : Fin 256) (j : Fin 1024) :
    val_main_v29 (F := Ideal) x0 x1 x2 (ix4 b r s j)
      = proj x0 x1 x2 ⟨b.val * 2048 + r.val * 256 + s.val, by omega⟩ ⟨1024 + j.val, by omega⟩ := by
  rw [val_main_v29_apply, val_main_v18_apply, ← proj_apply]
  refine congrArg _ (funext fun a => ?_)
  fin_cases a <;> refine Fin.ext ?_ <;> simp <;> omega

theorem mean_apply (b : Fin 8) (r : Fin 8) (j : Fin 1024) : val_main_v32 (F := Ideal) x0 x1 x2 (ix3 b r j) = mean x0 x1 x2 b r j := by
  unfold mean
  rw [val_main_v32_apply, val_main_v30_apply, val_main_v31_apply, val_main_cst_3_apply, val_main_cst_2_apply]
  have e : ∀ k, idx_main_v30 (ix3 b r j) k = ix4 b r k j := fun k => funext fun a => by fin_cases a <;> rfl
  simp only [e, keys_apply]
  generalize (∑ s : Fin 256, proj x0 x1 x2 ⟨b.val * 2048 + r.val * 256 + s.val, by omega⟩ ⟨1024 + j.val, by omega⟩) = z
  show Ideal.div (Ideal.ofBits FTy.f32 0x00000000#32 + z) (Ideal.ofBits FTy.f32 0x43800000#32) = _
  rw [show Ideal.ofBits FTy.f32 0x00000000#32 = 0 by simp [Ideal.ofBits, Ideal.ieee], zero_add,
    show Ideal.ofBits FTy.f32 0x43800000#32 = ((256 : ℝ) : EReal) by simp [Ideal.ofBits, Ideal.ieee, -EReal.coe_mul]; norm_num,
    Ideal.div_coe (by norm_num)]
  congr 1
  simp [Ideal.ofBits, Ideal.ieee, -EReal.coe_mul]; norm_num

end Cert.InProjRefIdeal.Hand
end
-- ==== Proof.InProjVal.lean ====
/-
  The input projection's three result arrays hold, block by block, the reference's results.
-/
module

public import proofs.«01_k».proof.Defs
public import proofs.«01_k».proof.Proof.InProjIdealData
public import proofs.«01_k».proof.Proof.InProjKer
public import proofs.«01_k».proof.Proof.InProjRefQ
public import Idealize.ShloMosaic.Lib.Pipeline.ValueKit

@[expose] public section
noncomputable section
open Idealize.ShloMosaic Idealize.ShloMosaic.TcCoe Idealize.SL.Sem
namespace Cert.InProjIdeal.Hand
open Cert.InProjIdeal Cert.InProjIdeal.Gen Idealize.ShloMosaic.Pointwise Cert.Hand Cert.InProjRefIdeal.Hand
open Idealize.ShloMosaic.Pipeline (Dat Cfg Window)

set_option maxRecDepth 16384
set_option maxHeartbeats 2000000

/-- The weight's first row of column tile `j`. -/
def top (j : Nat) : Nat := j * 1024 + if 8 ≤ j then 32 else 0

theorem idx : ∀ t : Fin grid0.N, cc0_transform_0 (grid0.coords t) = ![t.val / 12, 0] ∧ cc0_transform_1 (grid0.coords t) = ![0, 0]
    ∧ cc0_transform_2 (grid0.coords t) = ![top (t.val % 12), 0] ∧ cc0_transform_3 (grid0.coords t) = ![0, 0]
    ∧ cc0_transform_5 (grid0.coords t) = ![t.val / 12, 0] ∧ cc0_transform_6 (grid0.coords t) = ![t.val / 12, 0, 0]
    ∧ (grid0.coords t 0).val = t.val / 12 ∧ (grid0.coords t 1).val = t.val % 12 := by
  decide +kernel

variable (m : (ℓ : Loc nD τ sig) → Buf (Elt Ideal) ℓ)

abbrev cfgI : Cfg sig Λ₀ := cfgT (F := Ideal)

/-- The launched arrays. -/
abbrev a0 (c : Dev nD) : (⟨S16384x1024, .f32⟩ : BufTy).Contents (Elt Ideal) := m ((c : Thread nD τ).loc main_arg0)
abbrev a1 (c : Dev nD) : (⟨S1x1024, .f32⟩ : BufTy).Contents (Elt Ideal) := m ((c : Thread nD τ).loc main_arg1)
abbrev a2 (c : Dev nD) : (⟨S12320x1024, .bf16⟩ : BufTy).Contents (Elt Ideal) := m ((c : Thread nD τ).loc main_arg2)
abbrev a3 (c : Dev nD) : (⟨S128x1024, .bf16⟩ : BufTy).Contents (Elt Ideal) := m ((c : Thread nD τ).loc main_arg3)

theorem bound (t : Fin cfgI.N) : t.val < 96 := Nat.lt_of_lt_of_eq t.isLt points

/-- Row `r` of point `t`'s block of rows. -/
def rowAt (t : Fin cfgI.N) (r : Fin 2048) : Fin 16384 := ⟨t.val / 12 * 2048 + r.val, by have := bound t; omega⟩

/-- Row `j` of point `t`'s block of the weight. -/
def weightAt (t : Fin cfgI.N) (j : Fin 1024) : Fin 12320 := ⟨top (t.val % 12) + j.val, by
  unfold top; have := j.isLt; split <;> omega⟩

theorem blk0 (c : Dev nD) (t : Fin cfgI.N) (r : Fin 2048) (k : Fin 1024) :
    iblk m c 0 t (ix2 r k) = a0 m c (ix2 (rowAt t r) k) := by
  unfold iblk
  rw [show V m c (Pipeline.arrRef spec0 0) = a0 m c from V_other m c main_arg0 (by decide)]
  generalize a0 m c = X
  refine congrArg X (funext fun a => Fin.ext ?_)
  fin_cases a
  · show cc0_transform_0 (grid0.coords t) 0 * 2048 + 1 * r.val = t.val / 12 * 2048 + r.val
    rw [(idx t).1]; show t.val / 12 * 2048 + 1 * r.val = _; omega
  · show cc0_transform_0 (grid0.coords t) 1 * 1024 + 1 * k.val = k.val
    rw [(idx t).1]; show 0 * 1024 + 1 * k.val = _; omega

theorem blk1 (c : Dev nD) (t : Fin cfgI.N) (k : Fin 1024) : iblk m c 1 t (ix2 0 k) = a1 m c (ix2 0 k) := by
  unfold iblk
  rw [show V m c (Pipeline.arrRef spec0 1) = a1 m c from V_other m c main_arg1 (by decide)]
  generalize a1 m c = X
  refine congrArg X (funext fun a => Fin.ext ?_)
  fin_cases a
  · show cc0_transform_1 (grid0.coords t) 0 * 1 + 1 * 0 = 0
    rw [(idx t).2.1]; rfl
  · show cc0_transform_1 (grid0.coords t) 1 * 1024 + 1 * k.val = k.val
    rw [(idx t).2.1]; show 0 * 1024 + 1 * k.val = _; omega

theorem blk2 (c : Dev nD) (t : Fin cfgI.N) (j k : Fin 1024) : iblk m c 2 t (ix2 j k) = a2 m c (ix2 (weightAt t j) k) := by
  unfold iblk
  rw [show V m c (Pipeline.arrRef spec0 2) = a2 m c from V_other m c main_arg2 (by decide)]
  generalize a2 m c = X
  refine congrArg X (funext fun a => Fin.ext ?_)
  fin_cases a
  · show cc0_transform_2 (grid0.coords t) 0 + 1 * j.val = top (t.val % 12) + j.val
    rw [(idx t).2.2.1]; show top (t.val % 12) + 1 * j.val = _; omega
  · show cc0_transform_2 (grid0.coords t) 1 + 1 * k.val = k.val
    rw [(idx t).2.2.1]; show 0 + 1 * k.val = _; omega

theorem blk3 (c : Dev nD) (t : Fin cfgI.N) (j : Fin 128) (k : Fin 1024) : iblk m c 3 t (ix2 j k) = a3 m c (ix2 j k) := by
  unfold iblk
  rw [show V m c (Pipeline.arrRef spec0 3) = a3 m c from V_other m c main_arg3 (by decide)]
  generalize a3 m c = X
  refine congrArg X (funext fun a => Fin.ext ?_)
  fin_cases a
  · show cc0_transform_3 (grid0.coords t) 0 * 128 + 1 * j.val = j.val
    rw [(idx t).2.2.2.1]; show 0 * 128 + 1 * j.val = _; omega
  · show cc0_transform_3 (grid0.coords t) 1 * 1024 + 1 * k.val = k.val
    rw [(idx t).2.2.2.1]; show 0 * 1024 + 1 * k.val = _; omega

/-! ## The blocks' entries -/

theorem head_row (t : Fin cfgI.N) (r : Fin 2048) : rowAt (head t.val) r = rowAt t r := by
  have := bound t
  refine Fin.ext ?_
  show t.val / 12 * 12 % 96 / 12 * 2048 + r.val = t.val / 12 * 2048 + r.val
  omega

theorem rows_entry (c : Dev nD) (t : Fin cfgI.N) (r : Fin 2048) (k : Fin 1024) :
    rowsAt m c t.val (ix2 r k) = unit (a0 m c) (a1 m c) (rowAt t r) k := by
  unfold rowsAt unit
  rw [norm_row]
  simp only [blk0, blk1, head_row]

theorem proj_entry (c : Dev nD) (t : Fin cfgI.N) (r : Fin 2048) (j : Fin 1024) :
    projAt m c t (ix2 r j) = proj (a0 m c) (a1 m c) (a2 m c) (rowAt t r) (weightAt t j) := by
  unfold projAt proj
  rw [col_entry]
  simp only [rows_entry, blk2]

theorem step_at (c : Dev nD) (t : Fin cfgI.N) (r : Fin 2048) (j : Fin 128) :
    stepAt m c t.val (ix2 r j) = step (a0 m c) (a1 m c) (a3 m c) (rowAt t r) j := by
  unfold stepAt step unit
  rw [step_entry]
  simp only [blk0, blk1, blk3, head_row]

theorem mean_at (c : Dev nD) (t : Fin cfgI.N) (z : Fin 1) (r : Fin 8) (j : Fin 1024) :
    meansAt m c t.val (ix3 z r j) = mean (a0 m c) (a1 m c) (a2 m c) ⟨t.val / 12, by have := bound t; omega⟩ r j := by
  have := bound t
  unfold meansAt mean
  rw [mean_entry]
  refine congrArg (· * _) (Finset.sum_congr rfl fun s _ => ?_)
  unfold proj
  rw [sum_entry]
  refine Finset.sum_congr rfl fun k _ => ?_
  rw [rows_entry, blk2]
  have e1 : rowAt t ⟨r.val * 256 + s.val, by omega⟩ = ⟨t.val / 12 * 2048 + r.val * 256 + s.val, by omega⟩ := by
    refine Fin.ext ?_
    show t.val / 12 * 2048 + (r.val * 256 + s.val) = t.val / 12 * 2048 + r.val * 256 + s.val
    omega
  have e2 : weightAt (next t.val) j = ⟨1024 + j.val, by omega⟩ := by
    refine Fin.ext ?_
    have h : (t.val / 12 * 12 + 1) % 96 % 12 = 1 := by omega
    show top ((t.val / 12 * 12 + 1) % 96 % 12) + j.val = _
    rw [h]; rfl
  rw [e1, e2]

/-! ## The result arrays -/

def G4 (c : Dev nD) : Buf (Elt Ideal) ((c : Thread nD τ).loc main_v0_0) := fun (i : S16384x12288.Idx) =>
  proj (a0 m c) (a1 m c) (a2 m c) (i 0) (source (i 1))
def G5 (c : Dev nD) : Buf (Elt Ideal) ((c : Thread nD τ).loc main_v0_1) := fun (i : S16384x128.Idx) =>
  step (a0 m c) (a1 m c) (a3 m c) (i 0) (i 1)
def G6 (c : Dev nD) : Buf (Elt Ideal) ((c : Thread nD τ).loc main_v0_2) := fun (i : S8x8x1024.Idx) =>
  mean (a0 m c) (a1 m c) (a2 m c) (i 0) (i 1) (i 2)

theorem source_a (c : Nat) (h : c < 3072) : sourceRow c = 5120 + c := by unfold sourceRow; rw [if_pos h]
theorem source_b (c : Nat) (h : ¬ c < 3072) (h' : c < 6144) : sourceRow c = 9248 + (c - 3072) := by
  unfold sourceRow; rw [if_neg h, if_pos h']
theorem source_c (c : Nat) (h : ¬ c < 6144) (h' : c < 8192) : sourceRow c = 3072 + (c - 6144) := by
  unfold sourceRow; rw [if_neg (by omega), if_neg h, if_pos h']
theorem source_d (c : Nat) (h : ¬ c < 8192) (h' : c < 11264) : sourceRow c = c - 8192 := by
  unfold sourceRow; rw [if_neg (by omega), if_neg (by omega), if_neg h, if_pos h']
theorem source_e (c : Nat) (h : ¬ c < 11264) : sourceRow c = 8224 + (c - 11264) := by
  unfold sourceRow; rw [if_neg (by omega), if_neg (by omega), if_neg (by omega), if_neg h]

/-- Tile `j` of the weight's rows lands in the result's column tile `tile j`. -/
theorem source_tile (j : Fin 12) (k : Nat) (hk : k < 1024) : sourceRow (tile j * 1024 + k) = top j.val + k := by
  fin_cases j
  · show sourceRow (8 * 1024 + k) = 0 * 1024 + 0 + k
    rw [source_d _ (by omega) (by omega)]; omega
  · show sourceRow (9 * 1024 + k) = 1 * 1024 + 0 + k
    rw [source_d _ (by omega) (by omega)]; omega
  · show sourceRow (10 * 1024 + k) = 2 * 1024 + 0 + k
    rw [source_d _ (by omega) (by omega)]; omega
  · show sourceRow (6 * 1024 + k) = 3 * 1024 + 0 + k
    rw [source_c _ (by omega) (by omega)]; omega
  · show sourceRow (7 * 1024 + k) = 4 * 1024 + 0 + k
    rw [source_c _ (by omega) (by omega)]; omega
  · show sourceRow (0 * 1024 + k) = 5 * 1024 + 0 + k
    rw [source_a _ (by omega)]; omega
  · show sourceRow (1 * 1024 + k) = 6 * 1024 + 0 + k
    rw [source_a _ (by omega)]; omega
  · show sourceRow (2 * 1024 + k) = 7 * 1024 + 0 + k
    rw [source_a _ (by omega)]; omega
  · show sourceRow (11 * 1024 + k) = 8 * 1024 + 32 + k
    rw [source_e _ (by omega)]; omega
  · show sourceRow (3 * 1024 + k) = 9 * 1024 + 32 + k
    rw [source_b _ (by omega) (by omega)]; omega
  · show sourceRow (4 * 1024 + k) = 10 * 1024 + 32 + k
    rw [source_b _ (by omega) (by omega)]; omega
  · show sourceRow (5 * 1024 + k) = 11 * 1024 + 32 + k
    rw [source_b _ (by omega) (by omega)]; omega

theorem place4 (t : Fin cfgI.N) (r : Fin 2048) (j : Fin 1024) : ((cfgI.win 4).blk t).view.emb (ix2 r j)
    = (ix2 (rowAt t r) ⟨tile (grid0.coords t 1) * 1024 + j.val, by
        have := (by decide : ∀ j : Fin 12, tile j < 12) (grid0.coords t 1); omega⟩ : S16384x12288.Idx) := by
  funext a
  refine Fin.ext ?_
  fin_cases a
  · show cc0_transform_4 k0_off1_inb numel1_S1 (tbl (F := Ideal)) (grid0.coords t) 0 * 2048 + 1 * r.val = t.val / 12 * 2048 + r.val
    rw [map4, ← (idx t).2.2.2.2.2.2.1]
    show (grid0.coords t 0).val * 2048 + 1 * r.val = _; omega
  · show cc0_transform_4 k0_off1_inb numel1_S1 (tbl (F := Ideal)) (grid0.coords t) 1 * 1024 + 1 * j.val = tile (grid0.coords t 1) * 1024 + j.val
    rw [map4]
    show tile (grid0.coords t 1) * 1024 + 1 * j.val = _; omega

theorem place5 (t : Fin cfgI.N) (r : Fin 2048) (j : Fin 128) :
    ((cfgI.win 5).blk t).view.emb (ix2 r j) = (ix2 (rowAt t r) j : S16384x128.Idx) := by
  funext a
  refine Fin.ext ?_
  fin_cases a
  · show cc0_transform_5 (grid0.coords t) 0 * 2048 + 1 * r.val = t.val / 12 * 2048 + r.val
    rw [(idx t).2.2.2.2.1]; show t.val / 12 * 2048 + 1 * r.val = _; omega
  · show cc0_transform_5 (grid0.coords t) 1 * 128 + 1 * j.val = j.val
    rw [(idx t).2.2.2.2.1]; show 0 * 128 + 1 * j.val = _; omega

theorem place6 (t : Fin cfgI.N) (z : Fin 1) (r : Fin 8) (j : Fin 1024) :
    ((cfgI.win 6).blk t).view.emb (ix3 z r j) = (ix3 ⟨t.val / 12, by have := bound t; omega⟩ r j : S8x8x1024.Idx) := by
  funext a
  refine Fin.ext ?_
  have hz := z.isLt
  fin_cases a
  · show cc0_transform_6 (grid0.coords t) 0 * 1 + 1 * z.val = t.val / 12
    rw [(idx t).2.2.2.2.2.1]; show t.val / 12 * 1 + 1 * z.val = _; omega
  · show cc0_transform_6 (grid0.coords t) 1 * 8 + 1 * r.val = r.val
    rw [(idx t).2.2.2.2.2.1]; show 0 * 8 + 1 * r.val = _; omega
  · show cc0_transform_6 (grid0.coords t) 2 * 1024 + 1 * j.val = j.val
    rw [(idx t).2.2.2.2.2.1]; show 0 * 1024 + 1 * j.val = _; omega

theorem flushed4 (c : Dev nD) (t : Fin cfgI.N) :
    (dats m 0 c).flushed 4 t = ((cfgI.win 4).blk t).view.read (Elt Ideal) (G4 m c) := by
  show (dats m 0 c).after 4 t = _
  rw [after4]
  funext y
  obtain ⟨r, j, rfl⟩ : ∃ (r : Fin 2048) (j : Fin 1024), y = ix2 r j := ⟨_, _, ValueIdx.eq_ix2 y⟩
  refine (proj_entry m c t r j).trans ?_
  refine Eq.trans ?_ (congrArg (G4 m c) (place4 t r j)).symm
  show proj (a0 m c) (a1 m c) (a2 m c) (rowAt t r) (weightAt t j) = proj (a0 m c) (a1 m c) (a2 m c) (rowAt t r) (source _)
  refine congrArg _ (Fin.ext ?_)
  refine Eq.trans ?_ (source_tile (grid0.coords t 1) j.val j.isLt).symm
  rw [(idx t).2.2.2.2.2.2.2]
  rfl

theorem flushed5 (c : Dev nD) (t : Fin cfgI.N) :
    (dats m 0 c).flushed 5 t = ((cfgI.win 5).blk t).view.read (Elt Ideal) (G5 m c) := by
  show (dats m 0 c).after 5 t = _
  rw [after5]
  funext y
  obtain ⟨r, j, rfl⟩ : ∃ (r : Fin 2048) (j : Fin 128), y = ix2 r j := ⟨_, _, ValueIdx.eq_ix2 y⟩
  refine (step_at m c t r j).trans ?_
  exact (congrArg (G5 m c) (place5 t r j)).symm

theorem flushed6 (c : Dev nD) (t : Fin cfgI.N) :
    (dats m 0 c).flushed 6 t = ((cfgI.win 6).blk t).view.read (Elt Ideal) (G6 m c) := by
  show (dats m 0 c).after 6 t = _
  rw [after6]
  funext y
  obtain ⟨z, r, j, rfl⟩ : ∃ (z : Fin 1) (r : Fin 8) (j : Fin 1024), y = ix3 z r j := ⟨_, _, _, ValueIdx.eq_ix3 y⟩
  refine (mean_at m c t z r j).trans ?_
  exact (congrArg (G6 m c) (place6 t z r j)).symm

/-- Every column tile of the result is some point's. -/
theorem tile_onto : ∀ T : Fin 12, ∃ j : Fin 12, tile j = T.val := by decide

theorem cover4 (i : S16384x12288.Idx) : ∃ t : Fin cfgI.N, (cfgI.win 4).flush t = true ∧ i ∈ ((cfgI.win 4).blk t).view.set := by
  have h0 : (i 0 : Nat) < 16384 := (i 0).isLt
  have h1 : (i 1 : Nat) < 12288 := (i 1).isLt
  obtain ⟨j, hj⟩ := tile_onto ⟨(i 1 : Nat) / 1024, by omega⟩
  have hj' : tile j = (i 1 : Nat) / 1024 := hj
  have hN : cfgI.N = 96 := points
  have hj12 : j.val < 12 := j.isLt
  let t : Fin cfgI.N := ⟨(i 0 : Nat) / 2048 * 12 + j.val, by omega⟩
  have hc : grid0.coords t 1 = j := Fin.ext ((idx t).2.2.2.2.2.2.2.trans (by show ((i 0 : Nat) / 2048 * 12 + j.val) % 12 = j.val; omega))
  refine ⟨t, sent4 t, ?_⟩
  have e := place4 t ⟨(i 0 : Nat) % 2048, by omega⟩ ⟨(i 1 : Nat) % 1024, by omega⟩
  refine (congrArg (· ∈ ((cfgI.win 4).blk t).view.set) (e.trans ?_)).mp (View.emb_mem_set _ _)
  funext a
  refine Fin.ext ?_
  fin_cases a
  · show ((i 0 : Nat) / 2048 * 12 + j.val) / 12 * 2048 + (i 0 : Nat) % 2048 = (i 0 : Nat); omega
  · show tile (grid0.coords t 1) * 1024 + (i 1 : Nat) % 1024 = (i 1 : Nat)
    rw [hc, hj']; omega

theorem cover5 (i : S16384x128.Idx) : ∃ t : Fin cfgI.N, (cfgI.win 5).flush t = true ∧ i ∈ ((cfgI.win 5).blk t).view.set := by
  have h0 : (i 0 : Nat) < 16384 := (i 0).isLt
  have hN : cfgI.N = 96 := points
  let t : Fin cfgI.N := ⟨(i 0 : Nat) / 2048 * 12 + 11, by omega⟩
  refine ⟨t, (sent5 t).mpr (by show ((i 0 : Nat) / 2048 * 12 + 11) % 12 = 11; omega), ?_⟩
  have e := place5 t ⟨(i 0 : Nat) % 2048, by omega⟩ (i 1)
  refine (congrArg (· ∈ ((cfgI.win 5).blk t).view.set) (e.trans ?_)).mp (View.emb_mem_set _ _)
  funext a
  refine Fin.ext ?_
  fin_cases a
  · show ((i 0 : Nat) / 2048 * 12 + 11) / 12 * 2048 + (i 0 : Nat) % 2048 = (i 0 : Nat); omega
  · rfl

theorem cover6 (i : S8x8x1024.Idx) : ∃ t : Fin cfgI.N, (cfgI.win 6).flush t = true ∧ i ∈ ((cfgI.win 6).blk t).view.set := by
  have h0 : (i 0 : Nat) < 8 := (i 0).isLt
  have hN : cfgI.N = 96 := points
  let t : Fin cfgI.N := ⟨(i 0 : Nat) * 12 + 11, by omega⟩
  refine ⟨t, (sent6 t).mpr (by show ((i 0 : Nat) * 12 + 11) % 12 = 11; omega), ?_⟩
  have e := place6 t 0 (i 1) (i 2)
  refine (congrArg (· ∈ ((cfgI.win 6).blk t).view.set) (e.trans ?_)).mp (View.emb_mem_set _ _)
  funext a
  refine Fin.ext ?_
  fin_cases a
  · show ((i 0 : Nat) * 12 + 11) / 12 = (i 0 : Nat); omega
  · rfl
  · rfl

theorem final4 (c : Dev nD) : (dats m 0 c).arrAt 4 cfgI.N = G4 m c :=
  (dats m 0 c).arrAt_eq_of_cover 4 (G4 m c) (fun t _ => flushed4 m c t) cover4
theorem final5 (c : Dev nD) : (dats m 0 c).arrAt 5 cfgI.N = G5 m c :=
  (dats m 0 c).arrAt_eq_of_cover 5 (G5 m c) (fun t _ => flushed5 m c t) cover5
theorem final6 (c : Dev nD) : (dats m 0 c).arrAt 6 cfgI.N = G6 m c :=
  (dats m 0 c).arrAt_eq_of_cover 6 (G6 m c) (fun t _ => flushed6 m c t) cover6

theorem G4_eq (c : Dev nD) : G4 m c = Cert.InProjRefIdeal.Read.val_main_v25 (F := Ideal) (a0 m c) (a1 m c) (a2 m c) := by
  funext i
  obtain ⟨s, j, rfl⟩ : ∃ (s : Fin 16384) (j : Fin 12288), i = ix2 s j := ⟨_, _, ValueIdx.eq_ix2 i⟩
  exact (cols_apply (a0 m c) (a1 m c) (a2 m c) s j).symm

theorem G5_eq (c : Dev nD) : G5 m c = Cert.InProjRefIdeal.Read.val_main_v28 (F := Ideal) (a0 m c) (a1 m c) (a3 m c) := by
  funext i
  obtain ⟨s, j, rfl⟩ : ∃ (s : Fin 16384) (j : Fin 128), i = ix2 s j := ⟨_, _, ValueIdx.eq_ix2 i⟩
  exact (step_apply (a0 m c) (a1 m c) (a3 m c) s j).symm

theorem G6_eq (c : Dev nD) : G6 m c = Cert.InProjRefIdeal.Read.val_main_v32 (F := Ideal) (a0 m c) (a1 m c) (a2 m c) := by
  funext i
  obtain ⟨b, r, j, rfl⟩ : ∃ (b : Fin 8) (r : Fin 8) (j : Fin 1024), i = ix3 b r j := ⟨_, _, _, ValueIdx.eq_ix3 i⟩
  exact (mean_apply (a0 m c) (a1 m c) (a2 m c) b r j).symm

end Cert.InProjIdeal.Hand
end
-- ==== Proof.InProjClaims.lean ====
/-
  The claims about the input projection: the normalized rows' columns in their new order, the time-step columns and the block means
  of the keys.
-/
module

public import proofs.«01_k».proof.Defs
public import proofs.«01_k».proof.Proof.InProjVal
public import proofs.«01_k».proof.Proof.InProjData
public import proofs.«01_k».proof.Proof.Gen.InProjRefIdeal.Run
public import Idealize.ShloMosaic.Lib.Quiescent

@[expose] public section
noncomputable section
open Idealize.ShloMosaic Idealize.ShloMosaic.TcCoe Idealize.SL.Sem
namespace Cert.Proof.InProjClaims
open Cert.InProjIdeal.Hand

theorem frame_p : Cert.quiescent_InProj := fun m ρ _ => Cert.InProj.Hand.run_all m ρ
theorem frame_pi : Cert.quiescent_InProjIdeal := fun m ρ _ => Cert.InProjIdeal.Hand.run_all m ρ
theorem frame_ri : Cert.quiescent_InProjRefIdeal := fun m ρ _ =>
  (θ_run Cert.InProjRefIdeal.defs _ _).mono (fun r h => ⟨fun c => (h c).2.2.2,
      Idealize.ShloMosaic.sem_eq_zero_of_no_sems (by decide) r.2⟩)
    (Cert.InProjRefIdeal.Value.run (F := Ideal) m ρ)

theorem preserves : Cert.preserves_InProj_InProjIdeal := trivial

theorem algebraic : Cert.algebraic_InProjIdeal_InProjRefIdeal := by
  intro m ρ m' ρ' hpre hagree
  refine ⟨fun c => G4 m c, fun c => G5 m c, fun c => G6 m c, ?_, ?_⟩
  · refine (θ_run Cert.InProjIdeal.defs _ _).mono (fun r h c => ⟨?_, ?_, ?_, h.2.1 c⟩)
      (θ_run_and (run_quiescent (F := Ideal) m ρ) (run_all (F := Ideal) m ρ))
    · exact ((h.1.1 c).1 4).trans (final4 m c)
    · exact ((h.1.1 c).1 5).trans (final5 m c)
    · exact ((h.1.1 c).1 6).trans (final6 m c)
  · refine (θ_run Cert.InProjRefIdeal.defs _ _).mono
      (fun _ h c => ⟨(h c).1.trans ?_, (h c).2.1.trans ?_, (h c).2.2.1.trans ?_, (h c).2.2.2⟩)
      (Cert.InProjRefIdeal.Value.run (F := Ideal) m' ρ')
    · rw [Cert.InProjRefIdeal.Read.val_main_v25_eq]
      refine Eq.trans ?_ (G4_eq m c).symm
      obtain ⟨e0, e1, e2, e3⟩ := hagree c
      show Cert.InProjRefIdeal.Read.val_main_v25 (F := Ideal) _ _ _ = Cert.InProjRefIdeal.Read.val_main_v25 (F := Ideal) _ _ _
      rw [e0, e1, e2]
    · rw [Cert.InProjRefIdeal.Read.val_main_v28_eq]
      refine Eq.trans ?_ (G5_eq m c).symm
      obtain ⟨e0, e1, e2, e3⟩ := hagree c
      show Cert.InProjRefIdeal.Read.val_main_v28 (F := Ideal) _ _ _ = Cert.InProjRefIdeal.Read.val_main_v28 (F := Ideal) _ _ _
      rw [e0, e1, e3]
    · rw [Cert.InProjRefIdeal.Read.val_main_v32_eq]
      refine Eq.trans ?_ (G6_eq m c).symm
      obtain ⟨e0, e1, e2, e3⟩ := hagree c
      show Cert.InProjRefIdeal.Read.val_main_v32 (F := Ideal) _ _ _ = Cert.InProjRefIdeal.Read.val_main_v32 (F := Ideal) _ _ _
      rw [e0, e1, e2]

end Cert.Proof.InProjClaims
end
-- ==== Proof.MemKvVal.lean ====
/-
  The projection of the memory, entry by entry, on both sides: each row normalised, then its product with the weights.
-/
module

public import proofs.«01_k».proof.Defs
public import proofs.«01_k».proof.Proof.FfnMath
public import proofs.«01_k».proof.Proof.Gen.MemKvIdeal.Value
public import proofs.«01_k».proof.Proof.Gen.MemKvRefIdeal.Read
public import Idealize.ShloMosaic.Lib.Pointwise

@[expose] public section
noncomputable section
open Idealize.ShloMosaic Idealize.ShloMosaic.TcCoe Idealize.SL.Sem

namespace Cert.MemKvIdeal.Hand
open Cert.MemKvIdeal Cert.MemKvIdeal.Gen Idealize.ShloMosaic.Pointwise Cert.Hand

theorem pay_apply (x0 : Vec Ideal S512x1024 .f32) (x1 : Vec Ideal S1x1024 .f32) (x2 : Vec Ideal S1024x2048 .bf16) (r : Fin 512) (c : Fin 2048) :
    k0_pay1 x0 x1 x2 (ix2 r c)
      = ∑ k : Fin 1024, x0 (ix2 r k) * rms (fun k' => x0 (ix2 r k')) * x1 (ix2 0 k) * x2 (ix2 k c) := by
  unfold rms
  pointwise [k0_pay1]

end Cert.MemKvIdeal.Hand

namespace Cert.MemKvRefIdeal.Hand
open Cert.MemKvRefIdeal Cert.MemKvRefIdeal.Read Idealize.ShloMosaic.Pointwise Cert.Hand

variable (x0 : (⟨S512x1024, .f32⟩ : BufTy).Contents (Elt Ideal)) (x1 : (⟨S1x1024, .f32⟩ : BufTy).Contents (Elt Ideal))
  (x2 : (⟨S1024x2048, .bf16⟩ : BufTy).Contents (Elt Ideal))

theorem scale_apply (r : Fin 512) : val_main_v8 (F := Ideal) x0 (ix2 r 0) = rms (fun k => x0 (ix2 r k)) := by
  rw [val_main_v8_apply, val_main_v7_apply, val_main_v5_apply, val_main_v3_apply, val_main_v4_apply, val_main_v6_apply,
    val_main_cst_0_apply, val_main_cst_1_apply, val_main_v2_apply, val_main_cst_apply]
  unfold rms
  have e : ∀ k, idx_main_v2 (idx_main_v3 (ix2 r (0 : Fin 1))) k = ix2 r k := fun k => funext fun a => by fin_cases a <;> rfl
  simp only [val_main_v1_apply, e]
  pointwise []

theorem norm_apply (r : Fin 512) (k : Fin 1024) : val_main_v13 (F := Ideal) x0 x1 (ix2 r k)
    = x0 (ix2 r k) * rms (fun k => x0 (ix2 r k)) * x1 (ix2 0 k) := by
  rw [val_main_v13_apply, val_main_v12_apply, val_main_v11_apply, val_main_v0_apply, val_main_v10_apply, val_main_v9_apply,
    ← scale_apply]
  have e : idx_main_v9 (ix2 r k) = ix2 r 0 := funext fun a => by fin_cases a <;> rfl
  have e' : idx_main_v0 (idx_main_v11 (idx_main_v12 (ix2 r k))) = ix2 0 k := funext fun a => by
    fin_cases a <;> refine Fin.ext ?_ <;> simp <;> omega
  rw [e, e']
  rfl

theorem out_apply (r : Fin 512) (c : Fin 2048) : val_main_v16 (F := Ideal) x0 x1 x2 (ix2 r c)
    = ∑ k : Fin 1024, x0 (ix2 r k) * rms (fun k' => x0 (ix2 r k')) * x1 (ix2 0 k) * x2 (ix2 k c) := by
  rw [val_main_v16_apply]
  show val_main_v15 (F := Ideal) x0 x1 x2 (ix2 r c) = _
  rw [val_main_v15_apply]
  refine Finset.sum_congr rfl fun k _ => ?_
  rw [← norm_apply, val_main_v14_apply]
  have e1 : lidx_main_v15 (ix2 r c) k = ix2 r k := funext fun a => by fin_cases a <;> rfl
  have e2 : ridx_main_v15 (ix2 r c) k = ix2 k c := funext fun a => by fin_cases a <;> rfl
  rw [e1, e2]
  rfl

/-- The kernel's one block is the reference's result. -/
theorem eq_kernel : Cert.MemKvIdeal.Gen.k0_pay1 (F := Ideal) x0 x1 x2 = val_main_v16 (F := Ideal) x0 x1 x2 := by
  funext j
  obtain ⟨r, c, rfl⟩ : ∃ (r : Fin 512) (c : Fin 2048), j = ix2 r c := ⟨_, _, ValueIdx.eq_ix2 j⟩
  exact (Cert.MemKvIdeal.Hand.pay_apply x0 x1 x2 r c).trans (out_apply x0 x1 x2 r c).symm

end Cert.MemKvRefIdeal.Hand
end
-- ==== Proof.MemKvClaims.lean ====
/-
  The claims about the projection of the memory.
-/
module

public import proofs.«01_k».proof.Defs
public import proofs.«01_k».proof.Proof.MemKvVal
public import proofs.«01_k».proof.Proof.Gen.MemKv.Frame
public import proofs.«01_k».proof.Proof.Gen.MemKvIdeal.Value
public import proofs.«01_k».proof.Proof.Gen.MemKvRefIdeal.Run
public import Idealize.ShloMosaic.Lib.Quiescent

@[expose] public section
noncomputable section
open Idealize.ShloMosaic Idealize.ShloMosaic.TcCoe Idealize.SL.Sem
namespace Cert.Proof.MemKvClaims

theorem frame_p : Cert.quiescent_MemKv := fun m ρ _ => Cert.MemKv.Gen.frame m ρ
theorem frame_pi : Cert.quiescent_MemKvIdeal := fun m ρ _ => Cert.MemKvIdeal.Gen.frame m ρ
theorem frame_ri : Cert.quiescent_MemKvRefIdeal := fun m ρ _ =>
  (θ_run Cert.MemKvRefIdeal.defs _ _).mono (fun r h => ⟨fun c => (h c).2,
      Idealize.ShloMosaic.sem_eq_zero_of_no_sems (by decide) r.2⟩)
    (Cert.MemKvRefIdeal.Value.run (F := Ideal) m ρ)

theorem preserves : Cert.preserves_MemKv_MemKvIdeal := trivial

theorem algebraic : Cert.algebraic_MemKvIdeal_MemKvRefIdeal := by
  intro m ρ m' ρ' hpre hagree
  refine ⟨fun c => Cert.MemKvRefIdeal.Read.val_main_v16 (F := Ideal) (m ((c.tc : Thread Cert.MemKvIdeal.nD Cert.MemKvIdeal.τ).loc Cert.MemKvIdeal.main_arg0))
    (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)), ?_, ?_⟩
  · refine (θ_run Cert.MemKvIdeal.defs _ _).mono (fun _ h c => ⟨(h c).1.trans ?_, (h c).2⟩)
      (Cert.MemKvIdeal.Value.run (F := Ideal) m ρ)
    exact Cert.MemKvRefIdeal.Hand.eq_kernel _ _ _
  · refine (θ_run Cert.MemKvRefIdeal.defs _ _).mono (fun _ h c => ⟨(h c).1.trans ?_, (h c).2⟩)
      (Cert.MemKvRefIdeal.Value.run (F := Ideal) m' ρ')
    rw [Cert.MemKvRefIdeal.Read.val_main_v16_eq]
    obtain ⟨e0, e1, e2⟩ := hagree c
    show Cert.MemKvRefIdeal.Read.val_main_v16 (F := Ideal) _ _ _ = Cert.MemKvRefIdeal.Read.val_main_v16 (F := Ideal) _ _ _
    rw [e0, e1, e2]

end Cert.Proof.MemKvClaims
end
-- ==== Proof.SsdClaims.lean ====
/-
  The claims about the state-space recurrence: it runs, and its arguments end unchanged.
-/
module

public import proofs.«01_k».proof.Defs
public import proofs.«01_k».proof.Proof.Gen.Ssd.Frame
public import proofs.«01_k».proof.Proof.Gen.SsdIdeal.Frame

@[expose] public section
noncomputable section
open Idealize.ShloMosaic Idealize.ShloMosaic.TcCoe Idealize.SL.Sem
namespace Cert.Proof.SsdClaims

theorem frame_p : Cert.quiescent_Ssd := fun m ρ _ => Cert.Ssd.Gen.frame m ρ
theorem frame_pi : Cert.quiescent_SsdIdeal := fun m ρ _ => Cert.SsdIdeal.Gen.frame m ρ

theorem preserves : Cert.preserves_Ssd_SsdIdeal := trivial

end Cert.Proof.SsdClaims
end
-- ==== Proof.lean ====
/-
  The proof of `Cert.Claim`: each program's claims are proved in a module of their own under Proof/ and assembled here behind
  the witnesses of the programs' stated facts.
-/
module

public import proofs.«01_k».proof.Defs
public import proofs.«01_k».proof.Proof.MergeClaims
public import proofs.«01_k».proof.Proof.FfnClaims
public import proofs.«01_k».proof.Proof.InProjClaims
public import proofs.«01_k».proof.Proof.MemKvClaims
public import proofs.«01_k».proof.Proof.SsdClaims
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Pre_finite_scores
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_finite_gate
public import proofs.«01_k».proof.Proof.Gen.InProj
public import proofs.«01_k».proof.Proof.Gen.InProj.Skeleton
public import proofs.«01_k».proof.Proof.Gen.InProj.Launch
public import proofs.«01_k».proof.Proof.Gen.InProjIdeal
public import proofs.«01_k».proof.Proof.Gen.InProjIdeal.Launch
public import proofs.«01_k».proof.Proof.Gen.InProjIdeal.Skeleton
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.Ssd
public import proofs.«01_k».proof.Proof.Gen.Ssd.Frame
public import proofs.«01_k».proof.Proof.Gen.SsdIdeal
public import proofs.«01_k».proof.Proof.Gen.SsdIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Merge.Gen.facts, Cert.MergeIdeal.Gen.facts, Cert.MergeRefIdeal.Gen.facts,
    Cert.Ffn.Gen.facts, Cert.FfnIdeal.Gen.facts, Cert.FfnRefIdeal.Gen.facts,
    Cert.InProj.Gen.facts, Cert.InProjIdeal.Gen.facts, Cert.InProjRefIdeal.Gen.facts,
    Cert.MemKv.Gen.facts, Cert.MemKvIdeal.Gen.facts, Cert.MemKvRefIdeal.Gen.facts,
    Cert.Ssd.Gen.facts, Cert.SsdIdeal.Gen.facts,
    Cert.Pre_finite_scores.Gen.facts, Cert.Pre_finite_gate.Gen.facts,
    MergeClaims.frame_p, MergeClaims.frame_pi, fun m g _ => MergeClaims.frame_pi m g trivial,
    MergeClaims.frame_ri, fun m g _ => MergeClaims.frame_ri m g trivial,
    FfnClaims.frame_p, FfnClaims.frame_pi, fun m g _ => FfnClaims.frame_pi m g trivial,
    FfnClaims.frame_ri, fun m g _ => FfnClaims.frame_ri m g trivial,
    InProjClaims.frame_p, InProjClaims.frame_pi, InProjClaims.frame_ri,
    MemKvClaims.frame_p, MemKvClaims.frame_pi, MemKvClaims.frame_ri,
    SsdClaims.frame_p, SsdClaims.frame_pi,
    MergeClaims.preserves, MergeClaims.algebraic, FfnClaims.preserves, FfnClaims.algebraic,
    InProjClaims.preserves, InProjClaims.algebraic,
    MemKvClaims.preserves, MemKvClaims.algebraic,
    SsdClaims.preserves⟩

end Cert.Proof

end
